-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_resolved [hKernelIdeal : Cert.KernelIdeal.Facts] [hReferenceIdeal : Cert.ReferenceIdeal.Facts] [hOn_resolved : Cert.On_resolved.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![32, 440, 440]⟩ : Shape).Idx, (Cert.On_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.KernelIdeal.nD Cert.KernelIdeal.τ).loc Cert.KernelIdeal.main_v29) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![32, 440, 440]⟩ : Shape).Idx, (Cert.On_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.ReferenceIdeal.nD Cert.ReferenceIdeal.τ).loc Cert.ReferenceIdeal.main_v300) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hOn_resolved : Cert.On_resolved.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_resolved (hKernelIdeal := hKernelIdeal) (hReferenceIdeal := hReferenceIdeal) (hOn_resolved := hOn_resolved)
-- ==== On_resolved.lean ====
abbrev S32x440x128 : Shape := ⟨3, ![32, 440, 128]⟩
abbrev S4x128x32 : Shape := ⟨3, ![4, 128, 32]⟩
abbrev S128x3 : Shape := ⟨2, ![128, 3]⟩
abbrev S3 : Shape := ⟨1, ![3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S1x128x32 : Shape := ⟨3, ![1, 128, 32]⟩
abbrev S128x32 : Shape := ⟨2, ![128, 32]⟩
abbrev S32x440x32 : Shape := ⟨3, ![32, 440, 32]⟩
abbrev S32x440 : Shape := ⟨2, ![32, 440]⟩
abbrev S32x440x1 : Shape := ⟨3, ![32, 440, 1]⟩
abbrev S32x1x440 : Shape := ⟨3, ![32, 1, 440]⟩
abbrev S32x440x440 : Shape := ⟨3, ![32, 440, 440]⟩
abbrev S32x440x67 : Shape := ⟨3, ![32, 440, 67]⟩

class Facts : Prop where
  slices_S4x128x32_S1x128x32_0_0_0 : S4x128x32.Slices ![0, 0, 0] S1x128x32
  shapeCasts_S1x128x32_S128x32 : S1x128x32.ShapeCasts S128x32
  reducesTo_S32x440x32_S32x440_d2 : S32x440x32.ReducesTo [2] S32x440
  h_S_ : 0 < S_.numel
  bcast_S32x440_S32x440x1_0_1 : S32x440.BroadcastsInDim S32x440x1 (![0, 1] : Fin 2 → Fin S32x440x1.rank)
  bcast_S32x440_S32x1x440_0_2 : S32x440.BroadcastsInDim S32x1x440 (![0, 2] : Fin 2 → Fin S32x1x440.rank)
  bcast_S32x440x1_S32x440x440_0_1_2 : S32x440x1.BroadcastsInDim S32x440x440 (![0, 1, 2] : Fin 3 → Fin S32x440x440.rank)
  bcast_S32x1x440_S32x440x440_0_1_2 : S32x1x440.BroadcastsInDim S32x440x440 (![0, 1, 2] : Fin 3 → Fin S32x440x440.rank)
  bcast_S_S32x440x440 : S_.BroadcastsInDim S32x440x440 (![] : Fin 0 → Fin S32x440x440.rank)
  sliceFits_S32x440x440_S32x440x67 : S32x440x440.Slices (fun _ => 0) S32x440x67
  slices_S32x440x67_S32x440x1_0_0_66 : S32x440x67.Slices ![0, 0, 66] S32x440x1
  shapeCasts_S32x440x1_S32x440 : S32x440x1.ShapeCasts S32x440
  slices_S32x440x67_S32x440x1_0_0_65 : S32x440x67.Slices ![0, 0, 65] S32x440x1
  reducesTo_S32x440x440_S32x440_d2 : S32x440x440.ReducesTo [2] S32x440
  bcast_S_S32x440 : S_.BroadcastsInDim S32x440 (![] : Fin 0 → Fin S32x440.rank)
  slices_S4x128x32_S1x128x32_1_0_0 : S4x128x32.Slices ![1, 0, 0] S1x128x32
  slices_S4x128x32_S1x128x32_2_0_0 : S4x128x32.Slices ![2, 0, 0] S1x128x32
  slices_S4x128x32_S1x128x32_3_0_0 : S4x128x32.Slices ![3, 0, 0] S1x128x32
  dot_S32x440x128_S128x32_S32x440x32_2_0_01_1_n_n_wf : DotDims.WF S32x440x128 S128x32 S32x440x32 [2] [0] [0, 1] [1] [] []
  dot_S32x440x32_S32x440x32_S32x440x440_2_2_1_1_0_0_wf : DotDims.WF S32x440x32 S32x440x32 S32x440x440 [2] [2] [1] [1] [0] [0]

variable [Facts]

def dot_S32x440x128_S128x32_S32x440x32_2_0_01_1_n_n : DotDims S32x440x128 S128x32 S32x440x32 where
  lhsContracting := [2]
  rhsContracting := [0]
  lhsNonContracting := [0, 1]
  rhsNonContracting := [1]
  lhsBatch := []
  rhsBatch := []
  wf := dot_S32x440x128_S128x32_S32x440x32_2_0_01_1_n_n_wf
def dot_S32x440x32_S32x440x32_S32x440x440_2_2_1_1_0_0 : DotDims S32x440x32 S32x440x32 S32x440x440 where
  lhsContracting := [2]
  rhsContracting := [2]
  lhsNonContracting := [1]
  rhsNonContracting := [1]
  lhsBatch := [0]
  rhsBatch := [0]
  wf := dot_S32x440x32_S32x440x32_S32x440x440_2_2_1_1_0_0_wf
def fn_part5 {F : FTy → Type} [FloatOps F] (main_v82 : IVec S32x440 1) (main_v96 : FVec F S32x440x440 .f32) : IVec S32x440x440 1 :=
  let main_cst_20 : FVec F S_ .f32 := constant S_ .f32 0x2B8CBCCC#32
  let main_v97 : FVec F S32x440x440 .f32 := broadcastInDim S32x440x440 ![] bcast_S_S32x440x440 main_cst_20
  let main_v98 : FVec F S32x440x440 .f32 := maximumf main_v96 main_v97
  let main_v99 : FVec F S32x440x440 .f32 := Host.negf main_v98
  let main_values_21 : FVec F S32x440x67 .f32 := (fun x => (Host.topK S32x440x67 2 (FloatOps.cmpfTotal .gt) x sliceFits_S32x440x440_S32x440x67).1) main_v99
  let main_indices_22 : IVec S32x440x67 32 := (fun x => (Host.topK S32x440x67 2 (FloatOps.cmpfTotal .gt) x sliceFits_S32x440x440_S32x440x67).2) main_v99
  let main_v100 : FVec F S32x440x67 .f32 := Host.negf main_values_21
  let main_v101 : FVec F S32x440x1 .f32 := (extractStridedSlice S32x440x1 ![0, 0, 66] · slices_S32x440x67_S32x440x1_0_0_66) main_v100
  let main_v102 : FVec F S32x440 .f32 := shapeCast S32x440 main_v101 shapeCasts_S32x440x1_S32x440
  let main_v103 : FVec F S32x440x1 .f32 := (extractStridedSlice S32x440x1 ![0, 0, 65] · slices_S32x440x67_S32x440x1_0_0_65) main_v100
  let main_v104 : FVec F S32x440 .f32 := shapeCast S32x440 main_v103 shapeCasts_S32x440x1_S32x440
  let main_v105 : FVec F S32x440 .f32 := subf main_v102 main_v104
  let main_cst_23 : FVec F S_ .f32 := constant S_ .f32 0xFF800000#32
  let main_v106 : FVec F S32x440 .f32 := (fun x v => Host.reduce FloatOps.maximumf x v reducesTo_S32x440x440_S32x440_d2 h_S_) main_v98 main_cst_23
  let main_cst_24 : FVec F S_ .f32 := constant S_ .f32 0x34800000#32
  let main_v107 : FVec F S32x440 .f32 := broadcastInDim S32x440 ![] bcast_S_S32x440 main_cst_24
  let main_v108 : FVec F S32x440 .f32 := mulf main_v106 main_v107
  let main_v109 : IVec S32x440 1 := cmpf .ogt main_v105 main_v108
  let main_v110 : IVec S32x440 1 := andi main_v82 main_v109
  let main_v111 : IVec S32x440x1 1 := broadcastInDim S32x440x1 ![0, 1] bcast_S32x440_S32x440x1_0_1 main_v110
  let main_v112 : IVec S32x1x440 1 := broadcastInDim S32x1x440 ![0, 2] bcast_S32x440_S32x1x440_0_2 main_v110
  let main_v113 : IVec S32x440x440 1 := broadcastInDim S32x440x440 ![0, 1, 2] bcast_S32x440x1_S32x440x440_0_1_2 main_v111
  let main_v114 : IVec S32x440x440 1 := broadcastInDim S32x440x440 ![0, 1, 2] bcast_S32x1x440_S32x440x440_0_1_2 main_v112
  let main_v115 : IVec S32x440x440 1 := andi main_v113 main_v114
  main_v115

def fn_part4 {F : FTy → Type} [FloatOps F] (main_arg0 : FVec F S32x440x128 .f32) (main_arg1 : FVec F S4x128x32 .f32) (main_v54 : IVec S32x440 1) (main_v70 : FVec F S32x440x440 .f32) (main_v74 : FVec F S32x440 .f32) (main_v76 : FVec F S32x440 .f32) : IVec S32x440x440 1 :=
  let main_v77 : FVec F S32x440 .f32 := subf main_v74 main_v76
  let main_cst_16 : FVec F S_ .f32 := constant S_ .f32 0xFF800000#32
  let main_v78 : FVec F S32x440 .f32 := (fun x v => Host.reduce FloatOps.maximumf x v reducesTo_S32x440x440_S32x440_d2 h_S_) main_v70 main_cst_16
  let main_cst_17 : FVec F S_ .f32 := constant S_ .f32 0x34800000#32
  let main_v79 : FVec F S32x440 .f32 := broadcastInDim S32x440 ![] bcast_S_S32x440 main_cst_17
  let main_v80 : FVec F S32x440 .f32 := mulf main_v78 main_v79
  let main_v81 : IVec S32x440 1 := cmpf .ogt main_v77 main_v80
  let main_v82 : IVec S32x440 1 := andi main_v54 main_v81
  let main_v83 : FVec F S1x128x32 .f32 := (extractStridedSlice S1x128x32 ![3, 0, 0] · slices_S4x128x32_S1x128x32_3_0_0) main_arg1
  let main_v84 : FVec F S128x32 .f32 := shapeCast S128x32 main_v83 shapeCasts_S1x128x32_S128x32
  let main_v85 : FVec F S32x440x32 .f32 := (fun l r => Host.dotGeneral dot_S32x440x128_S128x32_S32x440x32_2_0_01_1_n_n none l r) main_arg0 main_v84
  let main_v86 : FVec F S32x440x32 .f32 := mulf main_v85 main_v85
  let main_cst_18 : FVec F S_ .f32 := constant S_ .f32 0x00000000#32
  let main_v87 : FVec F S32x440 .f32 := (fun x v => Host.reduceAdd x v reducesTo_S32x440x32_S32x440_d2 h_S_) main_v86 main_cst_18
  let main_v88 : FVec F S32x440x1 .f32 := broadcastInDim S32x440x1 ![0, 1] bcast_S32x440_S32x440x1_0_1 main_v87
  let main_v89 : FVec F S32x1x440 .f32 := broadcastInDim S32x1x440 ![0, 2] bcast_S32x440_S32x1x440_0_2 main_v87
  let main_v90 : FVec F S32x440x440 .f32 := broadcastInDim S32x440x440 ![0, 1, 2] bcast_S32x440x1_S32x440x440_0_1_2 main_v88
  let main_v91 : FVec F S32x440x440 .f32 := broadcastInDim S32x440x440 ![0, 1, 2] bcast_S32x1x440_S32x440x440_0_1_2 main_v89
  let main_v92 : FVec F S32x440x440 .f32 := addf main_v90 main_v91
  let main_v93 : FVec F S32x440x440 .f32 := (fun l r => Host.dotGeneral dot_S32x440x32_S32x440x32_S32x440x440_2_2_1_1_0_0 none l r) main_v85 main_v85
  let main_cst_19 : FVec F S_ .f32 := constant S_ .f32 0x40000000#32
  let main_v94 : FVec F S32x440x440 .f32 := broadcastInDim S32x440x440 ![] bcast_S_S32x440x440 main_cst_19
  let main_v95 : FVec F S32x440x440 .f32 := mulf main_v94 main_v93
  let main_v96 : FVec F S32x440x440 .f32 := subf main_v92 main_v95
  fn_part5 (F := F) main_v82 main_v96

def fn_part3 {F : FTy → Type} [FloatOps F] (main_arg0 : FVec F S32x440x128 .f32) (main_arg1 : FVec F S4x128x32 .f32) (main_v54 : IVec S32x440 1) (main_v57 : FVec F S32x440x32 .f32) : IVec S32x440x440 1 :=
  let main_v58 : FVec F S32x440x32 .f32 := mulf main_v57 main_v57
  let main_cst_11 : FVec F S_ .f32 := constant S_ .f32 0x00000000#32
  let main_v59 : FVec F S32x440 .f32 := (fun x v => Host.reduceAdd x v reducesTo_S32x440x32_S32x440_d2 h_S_) main_v58 main_cst_11
  let main_v60 : FVec F S32x440x1 .f32 := broadcastInDim S32x440x1 ![0, 1] bcast_S32x440_S32x440x1_0_1 main_v59
  let main_v61 : FVec F S32x1x440 .f32 := broadcastInDim S32x1x440 ![0, 2] bcast_S32x440_S32x1x440_0_2 main_v59
  let main_v62 : FVec F S32x440x440 .f32 := broadcastInDim S32x440x440 ![0, 1, 2] bcast_S32x440x1_S32x440x440_0_1_2 main_v60
  let main_v63 : FVec F S32x440x440 .f32 := broadcastInDim S32x440x440 ![0, 1, 2] bcast_S32x1x440_S32x440x440_0_1_2 main_v61
  let main_v64 : FVec F S32x440x440 .f32 := addf main_v62 main_v63
  let main_v65 : FVec F S32x440x440 .f32 := (fun l r => Host.dotGeneral dot_S32x440x32_S32x440x32_S32x440x440_2_2_1_1_0_0 none l r) main_v57 main_v57
  let main_cst_12 : FVec F S_ .f32 := constant S_ .f32 0x40000000#32
  let main_v66 : FVec F S32x440x440 .f32 := broadcastInDim S32x440x440 ![] bcast_S_S32x440x440 main_cst_12
  let main_v67 : FVec F S32x440x440 .f32 := mulf main_v66 main_v65
  let main_v68 : FVec F S32x440x440 .f32 := subf main_v64 main_v67
  let main_cst_13 : FVec F S_ .f32 := constant S_ .f32 0x2B8CBCCC#32
  let main_v69 : FVec F S32x440x440 .f32 := broadcastInDim S32x440x440 ![] bcast_S_S32x440x440 main_cst_13
  let main_v70 : FVec F S32x440x440 .f32 := maximumf main_v68 main_v69
  let main_v71 : FVec F S32x440x440 .f32 := Host.negf main_v70
  let main_values_14 : FVec F S32x440x67 .f32 := (fun x => (Host.topK S32x440x67 2 (FloatOps.cmpfTotal .gt) x sliceFits_S32x440x440_S32x440x67).1) main_v71
  let main_indices_15 : IVec S32x440x67 32 := (fun x => (Host.topK S32x440x67 2 (FloatOps.cmpfTotal .gt) x sliceFits_S32x440x440_S32x440x67).2) main_v71
  let main_v72 : FVec F S32x440x67 .f32 := Host.negf main_values_14
  let main_v73 : FVec F S32x440x1 .f32 := (extractStridedSlice S32x440x1 ![0, 0, 66] · slices_S32x440x67_S32x440x1_0_0_66) main_v72
  let main_v74 : FVec F S32x440 .f32 := shapeCast S32x440 main_v73 shapeCasts_S32x440x1_S32x440
  let main_v75 : FVec F S32x440x1 .f32 := (extractStridedSlice S32x440x1 ![0, 0, 65] · slices_S32x440x67_S32x440x1_0_0_65) main_v72
  let main_v76 : FVec F S32x440 .f32 := shapeCast S32x440 main_v75 shapeCasts_S32x440x1_S32x440
  fn_part4 (F := F) main_arg0 main_arg1 main_v54 main_v70 main_v74 main_v76

def fn_part2 {F : FTy → Type} [FloatOps F] (main_arg0 : FVec F S32x440x128 .f32) (main_arg1 : FVec F S4x128x32 .f32) (main_v26 : IVec S32x440 1) (main_v36 : FVec F S32x440x440 .f32) (main_v37 : FVec F S32x440x440 .f32) (main_v38 : FVec F S32x440x440 .f32) : IVec S32x440x440 1 :=
  let main_v39 : FVec F S32x440x440 .f32 := mulf main_v38 main_v37
  let main_v40 : FVec F S32x440x440 .f32 := subf main_v36 main_v39
  let main_cst_6 : FVec F S_ .f32 := constant S_ .f32 0x2B8CBCCC#32
  let main_v41 : FVec F S32x440x440 .f32 := broadcastInDim S32x440x440 ![] bcast_S_S32x440x440 main_cst_6
  let main_v42 : FVec F S32x440x440 .f32 := maximumf main_v40 main_v41
  let main_v43 : FVec F S32x440x440 .f32 := Host.negf main_v42
  let main_values_7 : FVec F S32x440x67 .f32 := (fun x => (Host.topK S32x440x67 2 (FloatOps.cmpfTotal .gt) x sliceFits_S32x440x440_S32x440x67).1) main_v43
  let main_indices_8 : IVec S32x440x67 32 := (fun x => (Host.topK S32x440x67 2 (FloatOps.cmpfTotal .gt) x sliceFits_S32x440x440_S32x440x67).2) main_v43
  let main_v44 : FVec F S32x440x67 .f32 := Host.negf main_values_7
  let main_v45 : FVec F S32x440x1 .f32 := (extractStridedSlice S32x440x1 ![0, 0, 66] · slices_S32x440x67_S32x440x1_0_0_66) main_v44
  let main_v46 : FVec F S32x440 .f32 := shapeCast S32x440 main_v45 shapeCasts_S32x440x1_S32x440
  let main_v47 : FVec F S32x440x1 .f32 := (extractStridedSlice S32x440x1 ![0, 0, 65] · slices_S32x440x67_S32x440x1_0_0_65) main_v44
  let main_v48 : FVec F S32x440 .f32 := shapeCast S32x440 main_v47 shapeCasts_S32x440x1_S32x440
  let main_v49 : FVec F S32x440 .f32 := subf main_v46 main_v48
  let main_cst_9 : FVec F S_ .f32 := constant S_ .f32 0xFF800000#32
  let main_v50 : FVec F S32x440 .f32 := (fun x v => Host.reduce FloatOps.maximumf x v reducesTo_S32x440x440_S32x440_d2 h_S_) main_v42 main_cst_9
  let main_cst_10 : FVec F S_ .f32 := constant S_ .f32 0x34800000#32
  let main_v51 : FVec F S32x440 .f32 := broadcastInDim S32x440 ![] bcast_S_S32x440 main_cst_10
  let main_v52 : FVec F S32x440 .f32 := mulf main_v50 main_v51
  let main_v53 : IVec S32x440 1 := cmpf .ogt main_v49 main_v52
  let main_v54 : IVec S32x440 1 := andi main_v26 main_v53
  let main_v55 : FVec F S1x128x32 .f32 := (extractStridedSlice S1x128x32 ![2, 0, 0] · slices_S4x128x32_S1x128x32_2_0_0) main_arg1
  let main_v56 : FVec F S128x32 .f32 := shapeCast S128x32 main_v55 shapeCasts_S1x128x32_S128x32
  let main_v57 : FVec F S32x440x32 .f32 := (fun l r => Host.dotGeneral dot_S32x440x128_S128x32_S32x440x32_2_0_01_1_n_n none l r) main_arg0 main_v56
  fn_part3 (F := F) main_arg0 main_arg1 main_v54 main_v57

def fn_part1 {F : FTy → Type} [FloatOps F] (main_arg0 : FVec F S32x440x128 .f32) (main_arg1 : FVec F S4x128x32 .f32) (main_v15 : FVec F S32x440x440 .f32) (main_v17 : FVec F S32x440x67 .f32) (main_v18 : FVec F S32x440x1 .f32) : IVec S32x440x440 1 :=
  let main_v19 : FVec F S32x440 .f32 := shapeCast S32x440 main_v18 shapeCasts_S32x440x1_S32x440
  let main_v20 : FVec F S32x440x1 .f32 := (extractStridedSlice S32x440x1 ![0, 0, 65] · slices_S32x440x67_S32x440x1_0_0_65) main_v17
  let main_v21 : FVec F S32x440 .f32 := shapeCast S32x440 main_v20 shapeCasts_S32x440x1_S32x440
  let main_v22 : FVec F S32x440 .f32 := subf main_v19 main_v21
  let main_cst_2 : FVec F S_ .f32 := constant S_ .f32 0xFF800000#32
  let main_v23 : FVec F S32x440 .f32 := (fun x v => Host.reduce FloatOps.maximumf x v reducesTo_S32x440x440_S32x440_d2 h_S_) main_v15 main_cst_2
  let main_cst_3 : FVec F S_ .f32 := constant S_ .f32 0x34800000#32
  let main_v24 : FVec F S32x440 .f32 := broadcastInDim S32x440 ![] bcast_S_S32x440 main_cst_3
  let main_v25 : FVec F S32x440 .f32 := mulf main_v23 main_v24
  let main_v26 : IVec S32x440 1 := cmpf .ogt main_v22 main_v25
  let main_v27 : FVec F S1x128x32 .f32 := (extractStridedSlice S1x128x32 ![1, 0, 0] · slices_S4x128x32_S1x128x32_1_0_0) main_arg1
  let main_v28 : FVec F S128x32 .f32 := shapeCast S128x32 main_v27 shapeCasts_S1x128x32_S128x32
  let main_v29 : FVec F S32x440x32 .f32 := (fun l r => Host.dotGeneral dot_S32x440x128_S128x32_S32x440x32_2_0_01_1_n_n none l r) main_arg0 main_v28
  let main_v30 : FVec F S32x440x32 .f32 := mulf main_v29 main_v29
  let main_cst_4 : FVec F S_ .f32 := constant S_ .f32 0x00000000#32
  let main_v31 : FVec F S32x440 .f32 := (fun x v => Host.reduceAdd x v reducesTo_S32x440x32_S32x440_d2 h_S_) main_v30 main_cst_4
  let main_v32 : FVec F S32x440x1 .f32 := broadcastInDim S32x440x1 ![0, 1] bcast_S32x440_S32x440x1_0_1 main_v31
  let main_v33 : FVec F S32x1x440 .f32 := broadcastInDim S32x1x440 ![0, 2] bcast_S32x440_S32x1x440_0_2 main_v31
  let main_v34 : FVec F S32x440x440 .f32 := broadcastInDim S32x440x440 ![0, 1, 2] bcast_S32x440x1_S32x440x440_0_1_2 main_v32
  let main_v35 : FVec F S32x440x440 .f32 := broadcastInDim S32x440x440 ![0, 1, 2] bcast_S32x1x440_S32x440x440_0_1_2 main_v33
  let main_v36 : FVec F S32x440x440 .f32 := addf main_v34 main_v35
  let main_v37 : FVec F S32x440x440 .f32 := (fun l r => Host.dotGeneral dot_S32x440x32_S32x440x32_S32x440x440_2_2_1_1_0_0 none l r) main_v29 main_v29
  let main_cst_5 : FVec F S_ .f32 := constant S_ .f32 0x40000000#32
  let main_v38 : FVec F S32x440x440 .f32 := broadcastInDim S32x440x440 ![] bcast_S_S32x440x440 main_cst_5
  fn_part2 (F := F) main_arg0 main_arg1 main_v26 main_v36 main_v37 main_v38

def fn {F : FTy → Type} [FloatOps F] (main_arg0 : FVec F S32x440x128 .f32) (main_arg1 : FVec F S4x128x32 .f32) (main_arg2 : FVec F S128x3 .f32) (main_arg3 : FVec F S3 .f32) (main_arg4 : FVec F S128x64 .f32) (main_arg5 : FVec F S64 .f32) (main_arg6 : FVec F S64x1 .f32) (main_arg7 : FVec F S1 .f32) (main_arg8 : FVec F S_ .f32) : IVec S32x440x440 1 :=
  let main_v0 : FVec F S1x128x32 .f32 := (extractStridedSlice S1x128x32 ![0, 0, 0] · slices_S4x128x32_S1x128x32_0_0_0) main_arg1
  let main_v1 : FVec F S128x32 .f32 := shapeCast S128x32 main_v0 shapeCasts_S1x128x32_S128x32
  let main_v2 : FVec F S32x440x32 .f32 := (fun l r => Host.dotGeneral dot_S32x440x128_S128x32_S32x440x32_2_0_01_1_n_n none l r) main_arg0 main_v1
  let main_v3 : FVec F S32x440x32 .f32 := mulf main_v2 main_v2
  let main_cst : FVec F S_ .f32 := constant S_ .f32 0x00000000#32
  let main_v4 : FVec F S32x440 .f32 := (fun x v => Host.reduceAdd x v reducesTo_S32x440x32_S32x440_d2 h_S_) main_v3 main_cst
  let main_v5 : FVec F S32x440x1 .f32 := broadcastInDim S32x440x1 ![0, 1] bcast_S32x440_S32x440x1_0_1 main_v4
  let main_v6 : FVec F S32x1x440 .f32 := broadcastInDim S32x1x440 ![0, 2] bcast_S32x440_S32x1x440_0_2 main_v4
  let main_v7 : FVec F S32x440x440 .f32 := broadcastInDim S32x440x440 ![0, 1, 2] bcast_S32x440x1_S32x440x440_0_1_2 main_v5
  let main_v8 : FVec F S32x440x440 .f32 := broadcastInDim S32x440x440 ![0, 1, 2] bcast_S32x1x440_S32x440x440_0_1_2 main_v6
  let main_v9 : FVec F S32x440x440 .f32 := addf main_v7 main_v8
  let main_v10 : FVec F S32x440x440 .f32 := (fun l r => Host.dotGeneral dot_S32x440x32_S32x440x32_S32x440x440_2_2_1_1_0_0 none l r) main_v2 main_v2
  let main_cst_0 : FVec F S_ .f32 := constant S_ .f32 0x40000000#32
  let main_v11 : FVec F S32x440x440 .f32 := broadcastInDim S32x440x440 ![] bcast_S_S32x440x440 main_cst_0
  let main_v12 : FVec F S32x440x440 .f32 := mulf main_v11 main_v10
  let main_v13 : FVec F S32x440x440 .f32 := subf main_v9 main_v12
  let main_cst_1 : FVec F S_ .f32 := constant S_ .f32 0x2B8CBCCC#32
  let main_v14 : FVec F S32x440x440 .f32 := broadcastInDim S32x440x440 ![] bcast_S_S32x440x440 main_cst_1
  let main_v15 : FVec F S32x440x440 .f32 := maximumf main_v13 main_v14
  let main_v16 : FVec F S32x440x440 .f32 := Host.negf main_v15
  let main_values : FVec F S32x440x67 .f32 := (fun x => (Host.topK S32x440x67 2 (FloatOps.cmpfTotal .gt) x sliceFits_S32x440x440_S32x440x67).1) main_v16
  let main_indices : IVec S32x440x67 32 := (fun x => (Host.topK S32x440x67 2 (FloatOps.cmpfTotal .gt) x sliceFits_S32x440x440_S32x440x67).2) main_v16
  let main_v17 : FVec F S32x440x67 .f32 := Host.negf main_values
  let main_v18 : FVec F S32x440x1 .f32 := (extractStridedSlice S32x440x1 ![0, 0, 66] · slices_S32x440x67_S32x440x1_0_0_66) main_v17
  fn_part1 (F := F) main_arg0 main_arg1 main_v15 main_v17 main_v18
-- ==== Kernel.lean ====
abbrev S32x440x128 : Shape := ⟨3, ![32, 440, 128]⟩
abbrev S4x128x32 : Shape := ⟨3, ![4, 128, 32]⟩
abbrev S128x3 : Shape := ⟨2, ![128, 3]⟩
abbrev S3 : Shape := ⟨1, ![3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S22x22 : Shape := ⟨2, ![22, 22]⟩
abbrev S20x20 : Shape := ⟨2, ![20, 20]⟩
abbrev S1x3 : Shape := ⟨2, ![1, 3]⟩
abbrev S1x64 : Shape := ⟨2, ![1, 64]⟩
abbrev S1x1 : Shape := ⟨2, ![1, 1]⟩
abbrev S32x1x8 : Shape := ⟨3, ![32, 1, 8]⟩
abbrev S1x440x128 : Shape := ⟨3, ![1, 440, 128]⟩
abbrev S1x1x8 : Shape := ⟨3, ![1, 1, 8]⟩
abbrev S440x128 : Shape := ⟨2, ![440, 128]⟩
abbrev S1x128x32 : Shape := ⟨3, ![1, 128, 32]⟩
abbrev S128x32 : Shape := ⟨2, ![128, 32]⟩
abbrev S440x32 : Shape := ⟨2, ![440, 32]⟩
abbrev S440 : Shape := ⟨1, ![440]⟩
abbrev S440x1 : Shape := ⟨2, ![440, 1]⟩
abbrev S440x440 : Shape := ⟨2, ![440, 440]⟩
abbrev S1x440 : Shape := ⟨2, ![1, 440]⟩
abbrev S1x440x440 : Shape := ⟨3, ![1, 440, 440]⟩
abbrev S1x1x1 : Shape := ⟨3, ![1, 1, 1]⟩
abbrev S1x4 : Shape := ⟨2, ![1, 4]⟩
abbrev S1x8 : Shape := ⟨2, ![1, 8]⟩
abbrev S22x1x22x1 : Shape := ⟨4, ![22, 1, 22, 1]⟩
abbrev S1x20x1x20 : Shape := ⟨4, ![1, 20, 1, 20]⟩
abbrev S22x20x22x20 : Shape := ⟨4, ![22, 20, 22, 20]⟩
abbrev S32x440x440 : Shape := ⟨3, ![32, 440, 440]⟩
abbrev S1760x440 : Shape := ⟨2, ![1760, 440]⟩
abbrev S1760x1 : Shape := ⟨2, ![1760, 1]⟩
abbrev S1760 : Shape := ⟨1, ![1760]⟩
abbrev S440x3 : Shape := ⟨2, ![440, 3]⟩
abbrev S440x64 : Shape := ⟨2, ![440, 64]⟩

abbrev nBuf : Space → Nat
  | .hbm => 43
  | .vmem => 20
  | .smem => 0
  | _ => 0

abbrev bufTy : (tb : Table) → Fin (tcTables nBuf tb) → BufTy
  | .hbm, ⟨0, _⟩ => ⟨S32x440x128, .f32⟩
  | .hbm, ⟨1, _⟩ => ⟨S4x128x32, .f32⟩
  | .hbm, ⟨2, _⟩ => ⟨S128x3, .f32⟩
  | .hbm, ⟨3, _⟩ => ⟨S3, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .f32⟩
  | .hbm, ⟨9, _⟩ => ⟨S22x22, .f32⟩
  | .hbm, ⟨10, _⟩ => ⟨S20x20, .f32⟩
  | .hbm, ⟨11, _⟩ => ⟨S1x3, .f32⟩
  | .hbm, ⟨12, _⟩ => ⟨S1x64, .f32⟩
  | .hbm, ⟨13, _⟩ => ⟨S1x1, .f32⟩
  | .hbm, ⟨14, _⟩ => ⟨S1x1, .f32⟩
  | .hbm, ⟨15, _⟩ => ⟨S32x1x8, .f32⟩
  | .hbm, ⟨16, _⟩ => ⟨S22x1x22x1, .f32⟩
  | .hbm, ⟨17, _⟩ => ⟨S20x20, .i32⟩
  | .hbm, ⟨18, _⟩ => ⟨S20x20, .i32⟩
  | .hbm, ⟨19, _⟩ => ⟨S_, .i32⟩
  | .hbm, ⟨20, _⟩ => ⟨S20x20, .i32⟩
  | .hbm, ⟨21, _⟩ => ⟨S20x20, .i32⟩
  | .hbm, ⟨22, _⟩ => ⟨S20x20, .i1⟩
  | .hbm, ⟨23, _⟩ => ⟨S20x20, .f32⟩
  | .hbm, ⟨24, _⟩ => ⟨S1x20x1x20, .f32⟩
  | .hbm, ⟨25, _⟩ => ⟨S22x20x22x20, .f32⟩
  | .hbm, ⟨26, _⟩ => ⟨S22x20x22x20, .f32⟩
  | .hbm, ⟨27, _⟩ => ⟨S22x20x22x20, .f32⟩
  | .hbm, ⟨28, _⟩ => ⟨S440x440, .f32⟩
  | .hbm, ⟨29, _⟩ => ⟨S22x22, .i32⟩
  | .hbm, ⟨30, _⟩ => ⟨S22x22, .i32⟩
  | .hbm, ⟨31, _⟩ => ⟨S_, .i32⟩
  | .hbm, ⟨32, _⟩ => ⟨S22x22, .i32⟩
  | .hbm, ⟨33, _⟩ => ⟨S22x22, .i32⟩
  | .hbm, ⟨34, _⟩ => ⟨S22x22, .i1⟩
  | .hbm, ⟨35, _⟩ => ⟨S22x22, .f32⟩
  | .hbm, ⟨36, _⟩ => ⟨S22x1x22x1, .f32⟩
  | .hbm, ⟨37, _⟩ => ⟨S1x20x1x20, .f32⟩
  | .hbm, ⟨38, _⟩ => ⟨S22x20x22x20, .f32⟩
  | .hbm, ⟨39, _⟩ => ⟨S22x20x22x20, .f32⟩
  | .hbm, ⟨40, _⟩ => ⟨S22x20x22x20, .f32⟩
  | .hbm, ⟨41, _⟩ => ⟨S440x440, .f32⟩
  | .hbm, ⟨42, _⟩ => ⟨S32x440x440, .f32⟩
  | .local _ .vmem, ⟨0, _⟩ => ⟨S1x440x128, .f32⟩
  | .local _ .vmem, ⟨1, _⟩ => ⟨S1x440x128, .f32⟩
  | .local _ .vmem, ⟨2, _⟩ => ⟨S4x128x32, .f32⟩
  | .local _ .vmem, ⟨3, _⟩ => ⟨S1x1x8, .f32⟩
  | .local _ .vmem, ⟨4, _⟩ => ⟨S1x1x8, .f32⟩
  | .local _ .vmem, ⟨5, _⟩ => ⟨S1x440x128, .f32⟩
  | .local _ .vmem, ⟨6, _⟩ => ⟨S1x440x128, .f32⟩
  | .local _ .vmem, ⟨7, _⟩ => ⟨S4x128x32, .f32⟩
  | .local _ .vmem, ⟨8, _⟩ => ⟨S128x3, .f32⟩
  | .local _ .vmem, ⟨9, _⟩ => ⟨S1x3, .f32⟩
  | .local _ .vmem, ⟨10, _⟩ => ⟨S128x64, .f32⟩
  | .local _ .vmem, ⟨11, _⟩ => ⟨S1x64, .f32⟩
  | .local _ .vmem, ⟨12, _⟩ => ⟨S64x1, .f32⟩
  | .local _ .vmem, ⟨13, _⟩ => ⟨S1x1, .f32⟩
  | .local _ .vmem, ⟨14, _⟩ => ⟨S1x1, .f32⟩
  | .local _ .vmem, ⟨15, _⟩ => ⟨S32x1x8, .f32⟩
  | .local _ .vmem, ⟨16, _⟩ => ⟨S440x440, .f32⟩
  | .local _ .vmem, ⟨17, _⟩ => ⟨S440x440, .f32⟩
  | .local _ .vmem, ⟨18, _⟩ => ⟨S1x440x440, .f32⟩
  | .local _ .vmem, ⟨19, _⟩ => ⟨S1x440x440, .f32⟩
  | _, _ => ⟨S32x440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x440x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x440x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x1x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S440x440 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S440x440 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x440x440 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== ReferenceIdeal.lean ====
abbrev S32x440x128 : Shape := ⟨3, ![32, 440, 128]⟩
abbrev S4x128x32 : Shape := ⟨3, ![4, 128, 32]⟩
abbrev S128x3 : Shape := ⟨2, ![128, 3]⟩
abbrev S3 : Shape := ⟨1, ![3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S22x22 : Shape := ⟨2, ![22, 22]⟩
abbrev S1x128x32 : Shape := ⟨3, ![1, 128, 32]⟩
abbrev S128x32 : Shape := ⟨2, ![128, 32]⟩
abbrev S32x440x32 : Shape := ⟨3, ![32, 440, 32]⟩
abbrev S32x440 : Shape := ⟨2, ![32, 440]⟩
abbrev S32x440x1 : Shape := ⟨3, ![32, 440, 1]⟩
abbrev S32x1x440 : Shape := ⟨3, ![32, 1, 440]⟩
abbrev S32x440x440 : Shape := ⟨3, ![32, 440, 440]⟩
abbrev S32x440x66 : Shape := ⟨3, ![32, 440, 66]⟩
abbrev S32x440x66x1 : Shape := ⟨4, ![32, 440, 66, 1]⟩
abbrev S1x1x1x440 : Shape := ⟨4, ![1, 1, 1, 440]⟩
abbrev S32x440x66x440 : Shape := ⟨4, ![32, 440, 66, 440]⟩
abbrev S1x32x440x440 : Shape := ⟨4, ![1, 32, 440, 440]⟩
abbrev S4x32x440x440 : Shape := ⟨4, ![4, 32, 440, 440]⟩
abbrev S32x440x3 : Shape := ⟨3, ![32, 440, 3]⟩
abbrev S1x1x3 : Shape := ⟨3, ![1, 1, 3]⟩
abbrev S32x440x3x1 : Shape := ⟨4, ![32, 440, 3, 1]⟩
abbrev S1x1x1x1 : Shape := ⟨4, ![1, 1, 1, 1]⟩
abbrev S32x440x64 : Shape := ⟨3, ![32, 440, 64]⟩
abbrev S1x1x64 : Shape := ⟨3, ![1, 1, 64]⟩
abbrev S1x1x1 : Shape := ⟨3, ![1, 1, 1]⟩
abbrev S22 : Shape := ⟨1, ![22]⟩
abbrev S22x20 : Shape := ⟨2, ![22, 20]⟩
abbrev S440 : Shape := ⟨1, ![440]⟩
abbrev S20 : Shape := ⟨1, ![20]⟩
abbrev S1x20 : Shape := ⟨2, ![1, 20]⟩
abbrev S22x20x22 : Shape := ⟨3, ![22, 20, 22]⟩
abbrev S440x22 : Shape := ⟨2, ![440, 22]⟩
abbrev S440x22x20 : Shape := ⟨3, ![440, 22, 20]⟩
abbrev S440x440 : Shape := ⟨2, ![440, 440]⟩
abbrev S440x1 : Shape := ⟨2, ![440, 1]⟩
abbrev S1x440 : Shape := ⟨2, ![1, 440]⟩
abbrev S1x440x440 : Shape := ⟨3, ![1, 440, 440]⟩

abbrev nBuf : Space → Nat
  | .hbm => 453
  | .vmem => 0
  | .smem => 0
  | _ => 0

abbrev hbmTy0_0 (i : Nat) : BufTy := match i % 128 with
  | 0 => ⟨S32x440x128, .f32⟩
  | 1 => ⟨S4x128x32, .f32⟩
  | 2 => ⟨S128x3, .f32⟩
  | 3 => ⟨S3, .f32⟩
  | 4 => ⟨S128x64, .f32⟩
  | 5 => ⟨S64, .f32⟩
  | 6 => ⟨S64x1, .f32⟩
  | 7 => ⟨S1, .f32⟩
  | 8 => ⟨S_, .f32⟩
  | 9 => ⟨S22x22, .f32⟩
  | 10 => ⟨S1x128x32, .f32⟩
  | 11 => ⟨S128x32, .f32⟩
  | 12 => ⟨S32x440x32, .f32⟩
  | 13 => ⟨S32x440x32, .f32⟩
  | 14 => ⟨S_, .f32⟩
  | 15 => ⟨S32x440, .f32⟩
  | 16 => ⟨S32x440x1, .f32⟩
  | 17 => ⟨S32x1x440, .f32⟩
  | 18 => ⟨S32x440x440, .f32⟩
  | 19 => ⟨S32x440x440, .f32⟩
  | 20 => ⟨S32x440x440, .f32⟩
  | 21 => ⟨S32x440x440, .f32⟩
  | 22 => ⟨S_, .f32⟩
  | 23 => ⟨S32x440x440, .f32⟩
  | 24 => ⟨S32x440x440, .f32⟩
  | 25 => ⟨S32x440x440, .f32⟩
  | 26 => ⟨S_, .f32⟩
  | 27 => ⟨S32x440x440, .f32⟩
  | 28 => ⟨S32x440x440, .f32⟩
  | 29 => ⟨S32x440x440, .f32⟩
  | 30 => ⟨S32x440x440, .f32⟩
  | 31 => ⟨S32x440x66, .f32⟩
  | 32 => ⟨S32x440x66, .i32⟩
  | 33 => ⟨S32x440x66x1, .i32⟩
  | 34 => ⟨S1x1x1x440, .i32⟩
  | 35 => ⟨S32x440x66x440, .i32⟩
  | 36 => ⟨S32x440x66x440, .i32⟩
  | 37 => ⟨S32x440x66x440, .i1⟩
  | 38 => ⟨S32x440x66x440, .f32⟩
  | 39 => ⟨S_, .f32⟩
  | 40 => ⟨S32x440x440, .f32⟩
  | 41 => ⟨S32x440x440, .f32⟩
  | 42 => ⟨S32x440x440, .f32⟩
  | 43 => ⟨S32x440x440, .f32⟩
  | 44 => ⟨S32x440x440, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S32x440x440, .f32⟩
  | 55 => ⟨S32x440x440, .f32⟩
  | 56 => ⟨S32x440x440, .f32⟩
  | 57 => ⟨S32x440x440, .f32⟩
  | 58 => ⟨S1x128x32, .f32⟩
  | 59 => ⟨S128x32, .f32⟩
  | 60 => ⟨S32x440x32, .f32⟩
  | 61 => ⟨S32x440x32, .f32⟩
  | 62 => ⟨S_, .f32⟩
  | 63 => ⟨S32x440, .f32⟩
  | 64 => ⟨S32x440x1, .f32⟩
  | 65 => ⟨S32x1x440, .f32⟩
  | 66 => ⟨S32x440x440, .f32⟩
  | 67 => ⟨S32x440x440, .f32⟩
  | 68 => ⟨S32x440x440, .f32⟩
  | 69 => ⟨S32x440x440, .f32⟩
  | 70 => ⟨S_, .f32⟩
  | 71 => ⟨S32x440x440, .f32⟩
  | 72 => ⟨S32x440x440, .f32⟩
  | 73 => ⟨S32x440x440, .f32⟩
  | 74 => ⟨S_, .f32⟩
  | 75 => ⟨S32x440x440, .f32⟩
  | 76 => ⟨S32x440x440, .f32⟩
  | 77 => ⟨S32x440x440, .f32⟩
  | 78 => ⟨S32x440x440, .f32⟩
  | 79 => ⟨S32x440x66, .f32⟩
  | 80 => ⟨S32x440x66, .i32⟩
  | 81 => ⟨S32x440x66x1, .i32⟩
  | 82 => ⟨S1x1x1x440, .i32⟩
  | 83 => ⟨S32x440x66x440, .i32⟩
  | 84 => ⟨S32x440x66x440, .i32⟩
  | 85 => ⟨S32x440x66x440, .i1⟩
  | 86 => ⟨S32x440x66x440, .f32⟩
  | 87 => ⟨S_, .f32⟩
  | 88 => ⟨S32x440x440, .f32⟩
  | 89 => ⟨S32x440x440, .f32⟩
  | 90 => ⟨S32x440x440, .f32⟩
  | 91 => ⟨S32x440x440, .f32⟩
  | 92 => ⟨S32x440x440, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S32x440x440, .f32⟩
  | 103 => ⟨S32x440x440, .f32⟩
  | 104 => ⟨S32x440x440, .f32⟩
  | 105 => ⟨S32x440x440, .f32⟩
  | 106 => ⟨S1x128x32, .f32⟩
  | 107 => ⟨S128x32, .f32⟩
  | 108 => ⟨S32x440x32, .f32⟩
  | 109 => ⟨S32x440x32, .f32⟩
  | 110 => ⟨S_, .f32⟩
  | 111 => ⟨S32x440, .f32⟩
  | 112 => ⟨S32x440x1, .f32⟩
  | 113 => ⟨S32x1x440, .f32⟩
  | 114 => ⟨S32x440x440, .f32⟩
  | 115 => ⟨S32x440x440, .f32⟩
  | 116 => ⟨S32x440x440, .f32⟩
  | 117 => ⟨S32x440x440, .f32⟩
  | 118 => ⟨S_, .f32⟩
  | 119 => ⟨S32x440x440, .f32⟩
  | 120 => ⟨S32x440x440, .f32⟩
  | 121 => ⟨S32x440x440, .f32⟩
  | 122 => ⟨S_, .f32⟩
  | 123 => ⟨S32x440x440, .f32⟩
  | 124 => ⟨S32x440x440, .f32⟩
  | 125 => ⟨S32x440x440, .f32⟩
  | 126 => ⟨S32x440x440, .f32⟩
  | 127 => ⟨S32x440x66, .f32⟩
  | _ => ⟨S32x440x128, .f32⟩

abbrev hbmTy0_1 (i : Nat) : BufTy := match i % 128 with
  | 0 => ⟨S32x440x66, .i32⟩
  | 1 => ⟨S32x440x66x1, .i32⟩
  | 2 => ⟨S1x1x1x440, .i32⟩
  | 3 => ⟨S32x440x66x440, .i32⟩
  | 4 => ⟨S32x440x66x440, .i32⟩
  | 5 => ⟨S32x440x66x440, .i1⟩
  | 6 => ⟨S32x440x66x440, .f32⟩
  | 7 => ⟨S_, .f32⟩
  | 8 => ⟨S32x440x440, .f32⟩
  | 9 => ⟨S32x440x440, .f32⟩
  | 10 => ⟨S32x440x440, .f32⟩
  | 11 => ⟨S32x440x440, .f32⟩
  | 12 => ⟨S32x440x440, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S32x440x440, .f32⟩
  | 23 => ⟨S32x440x440, .f32⟩
  | 24 => ⟨S32x440x440, .f32⟩
  | 25 => ⟨S32x440x440, .f32⟩
  | 26 => ⟨S1x128x32, .f32⟩
  | 27 => ⟨S128x32, .f32⟩
  | 28 => ⟨S32x440x32, .f32⟩
  | 29 => ⟨S32x440x32, .f32⟩
  | 30 => ⟨S_, .f32⟩
  | 31 => ⟨S32x440, .f32⟩
  | 32 => ⟨S32x440x1, .f32⟩
  | 33 => ⟨S32x1x440, .f32⟩
  | 34 => ⟨S32x440x440, .f32⟩
  | 35 => ⟨S32x440x440, .f32⟩
  | 36 => ⟨S32x440x440, .f32⟩
  | 37 => ⟨S32x440x440, .f32⟩
  | 38 => ⟨S_, .f32⟩
  | 39 => ⟨S32x440x440, .f32⟩
  | 40 => ⟨S32x440x440, .f32⟩
  | 41 => ⟨S32x440x440, .f32⟩
  | 42 => ⟨S_, .f32⟩
  | 43 => ⟨S32x440x440, .f32⟩
  | 44 => ⟨S32x440x440, .f32⟩
  | 45 => ⟨S32x440x440, .f32⟩
  | 46 => ⟨S32x440x440, .f32⟩
  | 47 => ⟨S32x440x66, .f32⟩
  | 48 => ⟨S32x440x66, .i32⟩
  | 49 => ⟨S32x440x66x1, .i32⟩
  | 50 => ⟨S1x1x1x440, .i32⟩
  | 51 => ⟨S32x440x66x440, .i32⟩
  | 52 => ⟨S32x440x66x440, .i32⟩
  | 53 => ⟨S32x440x66x440, .i1⟩
  | 54 => ⟨S32x440x66x440, .f32⟩
  | 55 => ⟨S_, .f32⟩
  | 56 => ⟨S32x440x440, .f32⟩
  | 57 => ⟨S32x440x440, .f32⟩
  | 58 => ⟨S32x440x440, .f32⟩
  | 59 => ⟨S32x440x440, .f32⟩
  | 60 => ⟨S32x440x440, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S32x440x440, .f32⟩
  | 71 => ⟨S32x440x440, .f32⟩
  | 72 => ⟨S32x440x440, .f32⟩
  | 73 => ⟨S32x440x440, .f32⟩
  | 74 => ⟨S1x32x440x440, .f32⟩
  | 75 => ⟨S1x32x440x440, .f32⟩
  | 76 => ⟨S1x32x440x440, .f32⟩
  | 77 => ⟨S1x32x440x440, .f32⟩
  | 78 => ⟨S4x32x440x440, .f32⟩
  | 79 => ⟨S_, .f32⟩
  | 80 => ⟨S32x440x440, .f32⟩
  | 81 => ⟨S_, .f32⟩
  | 82 => ⟨S32x440x440, .f32⟩
  | 83 => ⟨S32x440x440, .f32⟩
  | 84 => ⟨S32x440x3, .f32⟩
  | 85 => ⟨S1x1x3, .f32⟩
  | 86 => ⟨S32x440x3, .f32⟩
  | 87 => ⟨S32x440x3, .f32⟩
  | 88 => ⟨S_, .f32⟩
  | 89 => ⟨S32x440, .f32⟩
  | 90 => ⟨S_, .f32⟩
  | 91 => ⟨S32x440, .f32⟩
  | 92 => ⟨S32x440, .f32⟩
  | 93 => ⟨S32x440x1, .f32⟩
  | 94 => ⟨S32x440x3, .f32⟩
  | 95 => ⟨S32x440x3, .f32⟩
  | 96 => ⟨S32x440x3, .f32⟩
  | 97 => ⟨S_, .f32⟩
  | 98 => ⟨S32x440, .f32⟩
  | 99 => ⟨S32x440x1, .f32⟩
  | 100 => ⟨S32x440x3, .f32⟩
  | 101 => ⟨S32x440x3, .f32⟩
  | 102 => ⟨S32x440x3, .f32⟩
  | 103 => ⟨S32x440x3, .i32⟩
  | 104 => ⟨S32x440x3, .f32⟩
  | 105 => ⟨S32x440x3, .i32⟩
  | 106 => ⟨S_, .i32⟩
  | 107 => ⟨S32x440x3, .i32⟩
  | 108 => ⟨S32x440x3, .i1⟩
  | 109 => ⟨S_, .i32⟩
  | 110 => ⟨S32x440x3, .i32⟩
  | 111 => ⟨S32x440x3, .i32⟩
  | 112 => ⟨S32x440x3, .i32⟩
  | 113 => ⟨S32x440x3x1, .i32⟩
  | 114 => ⟨S1, .i32⟩
  | 115 => ⟨S_, .i32⟩
  | 116 => ⟨S32x440x3x1, .i32⟩
  | 117 => ⟨S32x440x3x1, .i1⟩
  | 118 => ⟨S1x1x1x1, .i32⟩
  | 119 => ⟨S32x440x3x1, .i32⟩
  | 120 => ⟨S32x440x3x1, .i1⟩
  | 121 => ⟨S32x440x3x1, .i1⟩
  | 122 => ⟨S_, .i1⟩
  | 123 => ⟨S32x440x3, .i1⟩
  | 124 => ⟨S32x440x3, .f32⟩
  | 125 => ⟨S_, .f32⟩
  | 126 => ⟨S32x440x3, .f32⟩
  | 127 => ⟨S32x440x3, .f32⟩
  | _ => ⟨S32x440x128, .f32⟩

abbrev hbmTy0_2 (i : Nat) : BufTy := match i % 128 with
  | 0 => ⟨S_, .f32⟩
  | 1 => ⟨S_, .f32⟩
  | 2 => ⟨S32x440x3, .f32⟩
  | 3 => ⟨S32x440x3, .f32⟩
  | 4 => ⟨S_, .f32⟩
  | 5 => ⟨S32x440x3, .f32⟩
  | 6 => ⟨S32x440x3, .i1⟩
  | 7 => ⟨S32x440x3, .f32⟩
  | 8 => ⟨S32x440x3, .f32⟩
  | 9 => ⟨S32x440x3, .i32⟩
  | 10 => ⟨S32x440x3, .i32⟩
  | 11 => ⟨S32x440x3, .i32⟩
  | 12 => ⟨S_, .i32⟩
  | 13 => ⟨S32x440x3, .i32⟩
  | 14 => ⟨S32x440x3, .i1⟩
  | 15 => ⟨S_, .i32⟩
  | 16 => ⟨S32x440x3, .i32⟩
  | 17 => ⟨S32x440x3, .i32⟩
  | 18 => ⟨S32x440x3, .i32⟩
  | 19 => ⟨S32x440x3x1, .i32⟩
  | 20 => ⟨S1, .i32⟩
  | 21 => ⟨S_, .i32⟩
  | 22 => ⟨S32x440x3x1, .i32⟩
  | 23 => ⟨S32x440x3x1, .i1⟩
  | 24 => ⟨S1x1x1x1, .i32⟩
  | 25 => ⟨S32x440x3x1, .i32⟩
  | 26 => ⟨S32x440x3x1, .i1⟩
  | 27 => ⟨S32x440x3x1, .i1⟩
  | 28 => ⟨S_, .i1⟩
  | 29 => ⟨S32x440x3, .i1⟩
  | 30 => ⟨S32x440x3, .f32⟩
  | 31 => ⟨S_, .f32⟩
  | 32 => ⟨S32x440x3, .f32⟩
  | 33 => ⟨S32x440x3, .f32⟩
  | 34 => ⟨S_, .f32⟩
  | 35 => ⟨S32x440, .f32⟩
  | 36 => ⟨S32x440x1, .f32⟩
  | 37 => ⟨S_, .f32⟩
  | 38 => ⟨S32x440x1, .f32⟩
  | 39 => ⟨S32x440x1, .f32⟩
  | 40 => ⟨S32x440x3, .f32⟩
  | 41 => ⟨S32x440x3, .f32⟩
  | 42 => ⟨S32x440x64, .f32⟩
  | 43 => ⟨S1x1x64, .f32⟩
  | 44 => ⟨S32x440x64, .f32⟩
  | 45 => ⟨S32x440x64, .f32⟩
  | 46 => ⟨S_, .f32⟩
  | 47 => ⟨S32x440x64, .f32⟩
  | 48 => ⟨S32x440x64, .f32⟩
  | 49 => ⟨S_, .f32⟩
  | 50 => ⟨S32x440x64, .f32⟩
  | 51 => ⟨S32x440x64, .f32⟩
  | 52 => ⟨S32x440x64, .f32⟩
  | 53 => ⟨S_, .f32⟩
  | 54 => ⟨S32x440x64, .f32⟩
  | 55 => ⟨S32x440x64, .f32⟩
  | 56 => ⟨S_, .f32⟩
  | 57 => ⟨S32x440x64, .f32⟩
  | 58 => ⟨S32x440x64, .f32⟩
  | 59 => ⟨S_, .f32⟩
  | 60 => ⟨S32x440x64, .f32⟩
  | 61 => ⟨S32x440x64, .f32⟩
  | 62 => ⟨S_, .f32⟩
  | 63 => ⟨S32x440x64, .f32⟩
  | 64 => ⟨S32x440x64, .f32⟩
  | 65 => ⟨S32x440x64, .f32⟩
  | 66 => ⟨S_, .f32⟩
  | 67 => ⟨S32x440x64, .f32⟩
  | 68 => ⟨S32x440x64, .f32⟩
  | 69 => ⟨S32x440x64, .f32⟩
  | 70 => ⟨S32x440x64, .f32⟩
  | 71 => ⟨S32x440x64, .f32⟩
  | 72 => ⟨S_, .f32⟩
  | 73 => ⟨S32x440x64, .f32⟩
  | 74 => ⟨S32x440x64, .f32⟩
  | 75 => ⟨S32x440x64, .f32⟩
  | 76 => ⟨S32x440x64, .f32⟩
  | 77 => ⟨S32x440x64, .f32⟩
  | 78 => ⟨S32x440x64, .f32⟩
  | 79 => ⟨S_, .f32⟩
  | 80 => ⟨S32x440x64, .f32⟩
  | 81 => ⟨S32x440x64, .f32⟩
  | 82 => ⟨S32x440x64, .f32⟩
  | 83 => ⟨S32x440x64, .f32⟩
  | 84 => ⟨S32x440x64, .f32⟩
  | 85 => ⟨S32x440x64, .f32⟩
  | 86 => ⟨S32x440x64, .f32⟩
  | 87 => ⟨S_, .f32⟩
  | 88 => ⟨S32x440x64, .f32⟩
  | 89 => ⟨S32x440x64, .f32⟩
  | 90 => ⟨S32x440x64, .f32⟩
  | 91 => ⟨S32x440x64, .f32⟩
  | 92 => ⟨S32x440x64, .f32⟩
  | 93 => ⟨S32x440x64, .f32⟩
  | 94 => ⟨S32x440x64, .f32⟩
  | 95 => ⟨S_, .f32⟩
  | 96 => ⟨S32x440x64, .f32⟩
  | 97 => ⟨S32x440x64, .f32⟩
  | 98 => ⟨S_, .f32⟩
  | 99 => ⟨S32x440x64, .f32⟩
  | 100 => ⟨S32x440x64, .i1⟩
  | 101 => ⟨S32x440x64, .f32⟩
  | 102 => ⟨S32x440x64, .f32⟩
  | 103 => ⟨S_, .f32⟩
  | 104 => ⟨S32x440x64, .f32⟩
  | 105 => ⟨S32x440x64, .f32⟩
  | 106 => ⟨S32x440x64, .f32⟩
  | 107 => ⟨S32x440x1, .f32⟩
  | 108 => ⟨S1x1x1, .f32⟩
  | 109 => ⟨S32x440x1, .f32⟩
  | 110 => ⟨S32x440x1, .f32⟩
  | 111 => ⟨S32x440x1, .f32⟩
  | 112 => ⟨S32x440x1, .f32⟩
  | 113 => ⟨S_, .f32⟩
  | 114 => ⟨S32x440x1, .f32⟩
  | 115 => ⟨S32x440x1, .f32⟩
  | 116 => ⟨S_, .f32⟩
  | 117 => ⟨S32x440x1, .f32⟩
  | 118 => ⟨S32x440x1, .f32⟩
  | 119 => ⟨S32x440, .f32⟩
  | 120 => ⟨S32x440x1, .f32⟩
  | 121 => ⟨S32x1x440, .f32⟩
  | 122 => ⟨S32x440x440, .f32⟩
  | 123 => ⟨S32x440x440, .f32⟩
  | 124 => ⟨S32x440x440, .f32⟩
  | 125 => ⟨S32x440x440, .f32⟩
  | 126 => ⟨S32x440x440, .f32⟩
  | 127 => ⟨S_, .f32⟩
  | _ => ⟨S32x440x128, .f32⟩

abbrev hbmTy0_3 (i : Nat) : BufTy := match i % 128 with
  | 0 => ⟨S32x440x440, .f32⟩
  | 1 => ⟨S32x440x440, .f32⟩
  | 2 => ⟨S32x440x440, .f32⟩
  | 3 => ⟨S32x440x440, .f32⟩
  | 4 => ⟨S_, .f32⟩
  | 5 => ⟨S32x440x440, .f32⟩
  | 6 => ⟨S32x440x440, .f32⟩
  | 7 => ⟨S_, .f32⟩
  | 8 => ⟨S32x440x440, .f32⟩
  | 9 => ⟨S32x440x440, .f32⟩
  | 10 => ⟨S22, .i32⟩
  | 11 => ⟨S22x20, .i32⟩
  | 12 => ⟨S440, .i32⟩
  | 13 => ⟨S20, .i32⟩
  | 14 => ⟨S1x20, .i32⟩
  | 15 => ⟨S22x20, .i32⟩
  | 16 => ⟨S440, .i32⟩
  | 17 => ⟨S22x20x22, .f32⟩
  | 18 => ⟨S440x22, .f32⟩
  | 19 => ⟨S440x22x20, .f32⟩
  | 20 => ⟨S440x440, .f32⟩
  | 21 => ⟨S440x1, .i32⟩
  | 22 => ⟨S1x440, .i32⟩
  | 23 => ⟨S440x440, .i32⟩
  | 24 => ⟨S440x440, .i32⟩
  | 25 => ⟨S440x440, .i1⟩
  | 26 => ⟨S_, .f32⟩
  | 27 => ⟨S_, .f32⟩
  | 28 => ⟨S440x440, .f32⟩
  | 29 => ⟨S440x440, .f32⟩
  | 30 => ⟨S440x1, .i32⟩
  | 31 => ⟨S1x440, .i32⟩
  | 32 => ⟨S440x440, .i32⟩
  | 33 => ⟨S440x440, .i32⟩
  | 34 => ⟨S440x440, .i1⟩
  | 35 => ⟨S440x1, .i32⟩
  | 36 => ⟨S1x440, .i32⟩
  | 37 => ⟨S440x440, .i32⟩
  | 38 => ⟨S440x440, .i32⟩
  | 39 => ⟨S440x440, .i32⟩
  | 40 => ⟨S440x440, .i32⟩
  | 41 => ⟨S_, .i32⟩
  | 42 => ⟨S440x440, .i32⟩
  | 43 => ⟨S440x440, .i1⟩
  | 44 => ⟨S440x440, .i1⟩
  | 45 => ⟨S_, .f32⟩
  | 46 => ⟨S_, .f32⟩
  | 47 => ⟨S440x440, .f32⟩
  | 48 => ⟨S440x440, .f32⟩
  | 49 => ⟨S440x440, .f32⟩
  | 50 => ⟨S32x440x440, .f32⟩
  | 51 => ⟨S1x440x440, .f32⟩
  | 52 => ⟨S32x440x440, .f32⟩
  | 53 => ⟨S32x440x440, .f32⟩
  | 54 => ⟨S1x440x440, .f32⟩
  | 55 => ⟨S1x440x440, .f32⟩
  | 56 => ⟨S32x440x440, .f32⟩
  | 57 => ⟨S32x440x440, .f32⟩
  | 58 => ⟨S32x440x1, .f32⟩
  | 59 => ⟨S32x440x440, .f32⟩
  | 60 => ⟨S32x440x440, .f32⟩
  | 61 => ⟨S32x440x1, .f32⟩
  | 62 => ⟨S32x440x440, .f32⟩
  | 63 => ⟨S32x440x440, .f32⟩
  | 64 => ⟨S32x440x440, .f32⟩
  | 65 => ⟨S32x440x1, .f32⟩
  | 66 => ⟨S32x440x440, .f32⟩
  | 67 => ⟨S32x440x440, .f32⟩
  | 68 => ⟨S32x440x440, .f32⟩
  | _ => ⟨S32x440x128, .f32⟩

abbrev hbmTy (i : Nat) : BufTy := match i / 128 with
  | 0 => hbmTy0_0 i
  | 1 => hbmTy0_1 i
  | 2 => hbmTy0_2 i
  | 3 => hbmTy0_3 i
  | _ => ⟨S32x440x128, .f32⟩

abbrev bufTy : (tb : Table) → Fin (tcTables nBuf tb) → BufTy
  | .hbm, ⟨i, _⟩ => hbmTy i
  | _, _ => ⟨S32x440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_values : Ref sig .tc := ⟨.hbm, 31, rfl⟩
abbrev main_indices : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_values_11 : Ref sig .tc := ⟨.hbm, 79, rfl⟩
abbrev main_indices_12 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_cst_15 : Ref sig .tc := ⟨.hbm, 95, rfl⟩
abbrev main_v58 : Ref sig .tc := ⟨.hbm, 96, rfl⟩
abbrev main_v59 : Ref sig .tc := ⟨.hbm, 97, rfl⟩
abbrev main_cst_16 : Ref sig .tc := ⟨.hbm, 98, rfl⟩
abbrev main_v60 : Ref sig .tc := ⟨.hbm, 99, rfl⟩
abbrev main_cst_17 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_18 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_19 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_20 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_values_21 : Ref sig .tc := ⟨.hbm, 127, rfl⟩
abbrev main_indices_22 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_v84 : Ref sig .tc := ⟨.hbm, 134, rfl⟩
abbrev main_cst_23 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_24 : Ref sig .tc := ⟨.hbm, 141, rfl⟩
abbrev main_v90 : Ref sig .tc := ⟨.hbm, 142, rfl⟩
abbrev main_cst_25 : Ref sig .tc := ⟨.hbm, 143, rfl⟩
abbrev main_v91 : Ref sig .tc := ⟨.hbm, 144, rfl⟩
abbrev main_v92 : Ref sig .tc := ⟨.hbm, 145, rfl⟩
abbrev main_cst_26 : Ref sig .tc := ⟨.hbm, 146, rfl⟩
abbrev main_v93 : Ref sig .tc := ⟨.hbm, 147, rfl⟩
abbrev main_cst_27 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_28 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_29 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_30 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_values_31 : Ref sig .tc := ⟨.hbm, 175, rfl⟩
abbrev main_indices_32 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_v117 : Ref sig .tc := ⟨.hbm, 182, rfl⟩
abbrev main_cst_33 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_34 : Ref sig .tc := ⟨.hbm, 189, rfl⟩
abbrev main_v123 : Ref sig .tc := ⟨.hbm, 190, rfl⟩
abbrev main_cst_35 : Ref sig .tc := ⟨.hbm, 191, rfl⟩
abbrev main_v124 : Ref sig .tc := ⟨.hbm, 192, rfl⟩
abbrev main_v125 : Ref sig .tc := ⟨.hbm, 193, rfl⟩
abbrev main_cst_36 : Ref sig .tc := ⟨.hbm, 194, rfl⟩
abbrev main_v126 : Ref sig .tc := ⟨.hbm, 195, rfl⟩
abbrev main_cst_37 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_cst_38 : Ref sig .tc := ⟨.hbm, 207, rfl⟩
abbrev main_v137 : Ref sig .tc := ⟨.hbm, 208, rfl⟩
abbrev main_cst_39 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_cst_40 : Ref sig .tc := ⟨.hbm, 216, rfl⟩
abbrev main_v144 : Ref sig .tc := ⟨.hbm, 217, rfl⟩
abbrev main_cst_41 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_cst_42 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_call4_v0 : Ref sig .tc := ⟨.hbm, 231, rfl⟩
abbrev main_call4_v1_0 : Ref sig .tc := ⟨.hbm, 232, rfl⟩
abbrev main_v156 : Ref sig .tc := ⟨.hbm, 233, rfl⟩
abbrev main_call5_c : Ref sig .tc := ⟨.hbm, 234, rfl⟩
abbrev main_call5_v0 : Ref sig .tc := ⟨.hbm, 235, rfl⟩
abbrev main_call5_v1 : Ref sig .tc := ⟨.hbm, 236, rfl⟩
abbrev main_call5_c_0 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_call5_v5 : Ref sig .tc := ⟨.hbm, 241, rfl⟩
abbrev main_call5_c_1 : Ref sig .tc := ⟨.hbm, 242, rfl⟩
abbrev main_call5_c_2 : Ref sig .tc := ⟨.hbm, 243, rfl⟩
abbrev main_call5_v6 : Ref sig .tc := ⟨.hbm, 244, rfl⟩
abbrev main_call5_v7 : Ref sig .tc := ⟨.hbm, 245, rfl⟩
abbrev main_call5_v8 : Ref sig .tc := ⟨.hbm, 246, rfl⟩
abbrev main_call5_v9 : Ref sig .tc := ⟨.hbm, 247, rfl⟩
abbrev main_call5_v10 : Ref sig .tc := ⟨.hbm, 248, rfl⟩
abbrev main_call5_v11 : Ref sig .tc := ⟨.hbm, 249, rfl⟩
abbrev main_call5_c_3 : Ref sig .tc := ⟨.hbm, 250, rfl⟩
abbrev main_call5_v12 : Ref sig .tc := ⟨.hbm, 251, rfl⟩
abbrev main_call5_v13 : Ref sig .tc := ⟨.hbm, 252, rfl⟩
abbrev main_call5_cst : Ref sig .tc := ⟨.hbm, 253, rfl⟩
abbrev main_call5_v14 : Ref sig .tc := ⟨.hbm, 254, rfl⟩
abbrev main_v157 : Ref sig .tc := ⟨.hbm, 255, rfl⟩
abbrev main_call6_call0_cst : Ref sig .tc := ⟨.hbm, 256, rfl⟩
abbrev main_call6_call0_v0 : Ref sig .tc := ⟨.hbm, 257, rfl⟩
abbrev main_v158 : Ref sig .tc := ⟨.hbm, 258, rfl⟩
abbrev main_v159 : Ref sig .tc := ⟨.hbm, 259, rfl⟩
abbrev main_cst_43 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_call7_v0 : Ref sig .tc := ⟨.hbm, 265, rfl⟩
abbrev main_call7_v1_0 : Ref sig .tc := ⟨.hbm, 266, rfl⟩
abbrev main_v164 : Ref sig .tc := ⟨.hbm, 267, rfl⟩
abbrev main_call8_c : Ref sig .tc := ⟨.hbm, 268, rfl⟩
abbrev main_call8_v0 : Ref sig .tc := ⟨.hbm, 269, rfl⟩
abbrev main_call8_v1 : Ref sig .tc := ⟨.hbm, 270, rfl⟩
abbrev main_call8_c_0 : Ref sig .tc := ⟨.hbm, 271, rfl⟩
abbrev main_call8_v2 : Ref sig .tc := ⟨.hbm, 272, rfl⟩
abbrev main_call8_v3 : Ref sig .tc := ⟨.hbm, 273, rfl⟩
abbrev main_call8_v4 : Ref sig .tc := ⟨.hbm, 274, rfl⟩
abbrev main_call8_v5 : Ref sig .tc := ⟨.hbm, 275, rfl⟩
abbrev main_call8_c_1 : Ref sig .tc := ⟨.hbm, 276, rfl⟩
abbrev main_call8_c_2 : Ref sig .tc := ⟨.hbm, 277, rfl⟩
abbrev main_call8_v6 : Ref sig .tc := ⟨.hbm, 278, rfl⟩
abbrev main_call8_v7 : Ref sig .tc := ⟨.hbm, 279, rfl⟩
abbrev main_call8_v8 : Ref sig .tc := ⟨.hbm, 280, rfl⟩
abbrev main_call8_v9 : Ref sig .tc := ⟨.hbm, 281, rfl⟩
abbrev main_call8_v10 : Ref sig .tc := ⟨.hbm, 282, rfl⟩
abbrev main_call8_v11 : Ref sig .tc := ⟨.hbm, 283, rfl⟩
abbrev main_call8_c_3 : Ref sig .tc := ⟨.hbm, 284, rfl⟩
abbrev main_call8_v12 : Ref sig .tc := ⟨.hbm, 285, rfl⟩
abbrev main_call8_v13 : Ref sig .tc := ⟨.hbm, 286, rfl⟩
abbrev main_call8_cst : Ref sig .tc := ⟨.hbm, 287, rfl⟩
abbrev main_call8_v14 : Ref sig .tc := ⟨.hbm, 288, rfl⟩
abbrev main_v165 : Ref sig .tc := ⟨.hbm, 289, rfl⟩
abbrev main_cst_44 : Ref sig .tc := ⟨.hbm, 290, rfl⟩
abbrev main_v166 : Ref sig .tc := ⟨.hbm, 291, rfl⟩
abbrev main_v167 : Ref sig .tc := ⟨.hbm, 292, rfl⟩
abbrev main_cst_45 : Ref sig .tc := ⟨.hbm, 293, rfl⟩
abbrev main_v168 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_cst_46 : Ref sig .tc := ⟨.hbm, 302, rfl⟩
abbrev main_v176 : Ref sig .tc := ⟨.hbm, 303, rfl⟩
abbrev main_v177 : Ref sig .tc := ⟨.hbm, 304, rfl⟩
abbrev main_cst_47 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_cst_48 : Ref sig .tc := ⟨.hbm, 309, rfl⟩
abbrev main_v181 : Ref sig .tc := ⟨.hbm, 310, rfl⟩
abbrev main_v182 : Ref sig .tc := ⟨.hbm, 311, rfl⟩
abbrev main_cst_49 : Ref sig .tc := ⟨.hbm, 312, rfl⟩
abbrev main_v183 : Ref sig .tc := ⟨.hbm, 313, rfl⟩
abbrev main_v184 : Ref sig .tc := ⟨.hbm, 314, rfl⟩
abbrev main_cst_50 : Ref sig .tc := ⟨.hbm, 315, rfl⟩
abbrev main_v185 : Ref sig .tc := ⟨.hbm, 316, rfl⟩
abbrev main_v186 : Ref sig .tc := ⟨.hbm, 317, rfl⟩
abbrev main_cst_51 : Ref sig .tc := ⟨.hbm, 318, rfl⟩
abbrev main_v187 : Ref sig .tc := ⟨.hbm, 319, rfl⟩
abbrev main_v188 : Ref sig .tc := ⟨.hbm, 320, rfl⟩
abbrev main_v189 : Ref sig .tc := ⟨.hbm, 321, rfl⟩
abbrev main_cst_52 : Ref sig .tc := ⟨.hbm, 322, rfl⟩
abbrev main_v190 : Ref sig .tc := ⟨.hbm, 323, rfl⟩
abbrev main_v191 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_cst_53 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_cst_54 : Ref sig .tc := ⟨.hbm, 335, rfl⟩
abbrev main_v201 : Ref sig .tc := ⟨.hbm, 336, rfl⟩
abbrev main_v202 : Ref sig .tc := ⟨.hbm, 337, rfl⟩
abbrev main_v203 : Ref sig .tc := ⟨.hbm, 338, rfl⟩
abbrev main_v204 : Ref sig .tc := ⟨.hbm, 339, rfl⟩
abbrev main_v205 : Ref sig .tc := ⟨.hbm, 340, rfl⟩
abbrev main_v206 : Ref sig .tc := ⟨.hbm, 341, rfl⟩
abbrev main_v207 : Ref sig .tc := ⟨.hbm, 342, rfl⟩
abbrev main_cst_55 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_v214 : Ref sig .tc := ⟨.hbm, 350, rfl⟩
abbrev main_cst_56 : Ref sig .tc := ⟨.hbm, 351, rfl⟩
abbrev main_v215 : Ref sig .tc := ⟨.hbm, 352, rfl⟩
abbrev main_v216 : Ref sig .tc := ⟨.hbm, 353, rfl⟩
abbrev main_cst_57 : Ref sig .tc := ⟨.hbm, 354, rfl⟩
abbrev main_v217 : Ref sig .tc := ⟨.hbm, 355, rfl⟩
abbrev main_v218 : Ref sig .tc := ⟨.hbm, 356, rfl⟩
abbrev main_v219 : Ref sig .tc := ⟨.hbm, 357, rfl⟩
abbrev main_v220 : Ref sig .tc := ⟨.hbm, 358, rfl⟩
abbrev main_cst_58 : Ref sig .tc := ⟨.hbm, 359, rfl⟩
abbrev main_v221 : Ref sig .tc := ⟨.hbm, 360, rfl⟩
abbrev main_v222 : Ref sig .tc := ⟨.hbm, 361, rfl⟩
abbrev main_v223 : Ref sig .tc := ⟨.hbm, 362, rfl⟩
abbrev main_v224 : Ref sig .tc := ⟨.hbm, 363, rfl⟩
abbrev main_v225 : Ref sig .tc := ⟨.hbm, 364, rfl⟩
abbrev main_v226 : Ref sig .tc := ⟨.hbm, 365, rfl⟩
abbrev main_v227 : Ref sig .tc := ⟨.hbm, 366, rfl⟩
abbrev main_v228 : Ref sig .tc := ⟨.hbm, 367, rfl⟩
abbrev main_v229 : Ref sig .tc := ⟨.hbm, 368, rfl⟩
abbrev main_cst_59 : Ref sig .tc := ⟨.hbm, 369, rfl⟩
abbrev main_v230 : Ref sig .tc := ⟨.hbm, 370, rfl⟩
abbrev main_v231 : Ref sig .tc := ⟨.hbm, 371, rfl⟩
abbrev main_cst_60 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_v238 : Ref sig .tc := ⟨.hbm, 379, rfl⟩
abbrev main_v239 : Ref sig .tc := ⟨.hbm, 380, rfl⟩
abbrev main_v240 : Ref sig .tc := ⟨.hbm, 381, rfl⟩
abbrev main_v241 : Ref sig .tc := ⟨.hbm, 382, rfl⟩
abbrev main_cst_61 : Ref sig .tc := ⟨.hbm, 383, rfl⟩
abbrev main_v242 : Ref sig .tc := ⟨.hbm, 384, rfl⟩
abbrev main_v243 : Ref sig .tc := ⟨.hbm, 385, rfl⟩
abbrev main_v244 : Ref sig .tc := ⟨.hbm, 386, rfl⟩
abbrev main_v245 : Ref sig .tc := ⟨.hbm, 387, rfl⟩
abbrev main_cst_62 : Ref sig .tc := ⟨.hbm, 388, rfl⟩
abbrev main_v246 : Ref sig .tc := ⟨.hbm, 389, rfl⟩
abbrev main_v247 : Ref sig .tc := ⟨.hbm, 390, rfl⟩
abbrev main_cst_63 : Ref sig .tc := ⟨.hbm, 391, rfl⟩
abbrev main_v248 : Ref sig .tc := ⟨.hbm, 392, rfl⟩
abbrev main_v249 : Ref sig .tc := ⟨.hbm, 393, rfl⟩
abbrev main_v250 : Ref sig .tc := ⟨.hbm, 394, rfl⟩
abbrev main_v251 : Ref sig .tc := ⟨.hbm, 395, rfl⟩
abbrev main_v252 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_v256 : Ref sig .tc := ⟨.hbm, 400, rfl⟩
abbrev main_v257 : Ref sig .tc := ⟨.hbm, 401, rfl⟩
abbrev main_v258 : Ref sig .tc := ⟨.hbm, 402, rfl⟩
abbrev main_v259 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_cst_64 : Ref sig .tc := ⟨.hbm, 410, rfl⟩
abbrev main_call9_v0 : Ref sig .tc := ⟨.hbm, 411, rfl⟩
abbrev main_call9_v1 : Ref sig .tc := ⟨.hbm, 412, rfl⟩
abbrev main_v266 : Ref sig .tc := ⟨.hbm, 413, rfl⟩
abbrev main_v267 : Ref sig .tc := ⟨.hbm, 414, rfl⟩
abbrev main_v268 : Ref sig .tc := ⟨.hbm, 415, rfl⟩
abbrev main_v269 : Ref sig .tc := ⟨.hbm, 416, rfl⟩
abbrev main_v270 : Ref sig .tc := ⟨.hbm, 417, rfl⟩
abbrev main_v271 : Ref sig .tc := ⟨.hbm, 418, rfl⟩
abbrev main_v272 : Ref sig .tc := ⟨.hbm, 419, rfl⟩
abbrev main_v273 : Ref sig .tc := ⟨.hbm, 420, rfl⟩
abbrev main_v274 : Ref sig .tc := ⟨.hbm, 421, rfl⟩
abbrev main_v275 : Ref sig .tc := ⟨.hbm, 422, rfl⟩
abbrev main_v276 : Ref sig .tc := ⟨.hbm, 423, rfl⟩
abbrev main_v277 : Ref sig .tc := ⟨.hbm, 424, rfl⟩
abbrev main_c : Ref sig .tc := ⟨.hbm, 425, rfl⟩
abbrev main_v278 : Ref sig .tc := ⟨.hbm, 426, rfl⟩
abbrev main_v279 : Ref sig .tc := ⟨.hbm, 427, rfl⟩
abbrev main_v280 : Ref sig .tc := ⟨.hbm, 428, rfl⟩
abbrev main_cst_65 : Ref sig .tc := ⟨.hbm, 429, rfl⟩
abbrev main_cst_66 : Ref sig .tc := ⟨.hbm, 430, rfl⟩
abbrev main_call10_v0 : Ref sig .tc := ⟨.hbm, 431, rfl⟩
abbrev main_call10_v1 : Ref sig .tc := ⟨.hbm, 432, rfl⟩
abbrev main_v281 : Ref sig .tc := ⟨.hbm, 433, rfl⟩
abbrev main_v282 : Ref sig .tc := ⟨.hbm, 434, rfl⟩
abbrev main_v283 : Ref sig .tc := ⟨.hbm, 435, rfl⟩
abbrev main_v284 : Ref sig .tc := ⟨.hbm, 436, rfl⟩
abbrev main_v285 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_v291 : Ref sig .tc := ⟨.hbm, 443, rfl⟩
abbrev main_v292 : Ref sig .tc := ⟨.hbm, 444, rfl⟩
abbrev main_v293 : Ref sig .tc := ⟨.hbm, 445, rfl⟩
abbrev main_v294 : Ref sig .tc := ⟨.hbm, 446, rfl⟩
abbrev main_v295 : Ref sig .tc := ⟨.hbm, 447, rfl⟩
abbrev main_v296 : Ref sig .tc := ⟨.hbm, 448, rfl⟩
abbrev main_v297 : Ref sig .tc := ⟨.hbm, 449, rfl⟩
abbrev main_v298 : Ref sig .tc := ⟨.hbm, 450, rfl⟩
abbrev main_v299 : Ref sig .tc := ⟨.hbm, 451, rfl⟩
abbrev main_v300 : Ref sig .tc := ⟨.hbm, 452, rfl⟩

abbrev nD : Nat := 1
abbrev τ : Topo := Topo.v7x

variable {F : FTy → Type} [FloatOps F]
-- ==== Proof.Spec.lean ====
/- The quantities both programs compute, over plain index types: the projections, the squared distances and the
   constants of the two texts. -/
module

public import Idealize.ShloMosaic.PureOps.Ideal

@[expose] public section

noncomputable section

namespace Knn

open Idealize.ShloMosaic

/-- The constant two. -/
def two : EReal := Ideal.ofBits .f32 0x40000000#32
/-- The smallest squared distance kept, 1e-12 as a float. -/
def eps : EReal := Ideal.ofBits .f32 0x2B8CBCCC#32
/-- The constant 1e-8 as a float. -/
def tiny : EReal := Ideal.ofBits .f32 0x322BCC77#32
/-- The number of entries in one head's distances, 32·440·440. -/
def entries : EReal := Ideal.ofBits .f32 0x4ABD1000#32

/-- The rows of `x` under the projection `w`. -/
def project {n p q : ℕ} (x : Fin n → Fin p → EReal) (w : Fin p → Fin q → EReal) (i : Fin n) (k : Fin q) : EReal :=
  ∑ d, x i d * w d k

/-- The squared distance of two rows, expanded as both programs expand it. -/
def sqDist {n q : ℕ} (z : Fin n → Fin q → EReal) (i j : Fin n) : EReal :=
  ((∑ k, z i k * z i k) + ∑ k, z j k * z j k) - two * ∑ k, z i k * z j k

/-- The distance of two rows, from the squared distance kept above `eps`. -/
def dist {n q : ℕ} (z : Fin n → Fin q → EReal) (i j : Fin n) : EReal := Ideal.sqrt (max (sqDist z i j) eps)

/-- The scale of a head's similarities, from the sum of its distances: minus one over twice the squared mean. -/
def scale (s : EReal) : EReal :=
  Ideal.div (Ideal.ofBits .f32 0xBF800000#32) (two * Ideal.div s entries * Ideal.div s entries + tiny)

/-- One where the pair's squared distance is within either row's threshold, zero elsewhere. -/
def near {n q : ℕ} (z : Fin n → Fin q → EReal) (t : Fin n → EReal) (i j : Fin n) : EReal :=
  if sqDist z i j ≤ max (t i) (t j) then 1 else 0

/-- One head's term of the adjacency, as the kernel computes it. -/
def headTerm {n q : ℕ} (z : Fin n → Fin q → EReal) (t : Fin n → EReal) (s : EReal) (i j : Fin n) : EReal :=
  Ideal.exp (max (sqDist z i j) eps * scale s) * near z t i j

/-- The adjacency: the mean of the four heads' terms. -/
def meanOfFour (u : Fin 4 → EReal) : EReal := Ideal.div (u 0 + u 1 + u 2 + u 3) (Ideal.ofBits .f32 0x40800000#32)

/-- The largest of three logits. -/
def largest (l : Fin 3 → EReal) : EReal :=
  max (Ideal.ofBits .f32 0xFF800000#32) (Finset.fold max (Ideal.ofBits .f32 0xFF800000#32) l Finset.univ)

/-- The softmax of three logits. -/
def softmax (l : Fin 3 → EReal) (k : Fin 3) : EReal :=
  Ideal.div (Ideal.exp (l k - largest l)) (∑ k', Ideal.exp (l k' - largest l))

/-- The mass kept: 0.85 as a float. -/
def mass : EReal := Ideal.ofBits .f32 0x3F59999A#32

/-- The mass of the experts ordered before an expert, as the kernel selects it: the greater ones, and the equal ones of
smaller number. -/
def before (p : Fin 3 → EReal) : Fin 3 → EReal
  | 0 => (if p 0 < p 1 then p 1 else 0) + (if p 0 < p 2 then p 2 else 0)
  | 1 => (if p 1 ≤ p 0 then p 0 else 0) + (if p 1 < p 2 then p 2 else 0)
  | 2 => (if p 2 ≤ p 0 then p 0 else 0) + (if p 2 ≤ p 1 then p 1 else 0)

/-- An expert's probability when the mass before it is below the mass kept, zero otherwise. -/
def kept (p : Fin 3 → EReal) (k : Fin 3) : EReal := if before p k < mass then p k else 0

/-- An expert's weight: its kept probability over the sum of the kept ones. -/
def weight (w : Fin 3 → EReal) (k : Fin 3) : EReal := Ideal.div (w k) (w 0 + w 1 + w 2 + tiny)

/-- The kernel's error function at `v`: its sign times one minus the series in Horner's form. -/
def erfHorner (v : EReal) : EReal :=
  (if 0 ≤ v then 1 else Ideal.ofBits .f32 0xBF800000#32) *
    (1 - (let t := Ideal.div 1 (1 + Ideal.ofBits .f32 0x3EA7BA05#32 * max v (-v))
      t * (Ideal.ofBits .f32 0x3E827906#32 + t * (Ideal.ofBits .f32 0xBE91A98E#32 + t * (Ideal.ofBits .f32 0x3FB5F0E3#32
        + t * (Ideal.ofBits .f32 0xBFBA00E3#32 + t * Ideal.ofBits .f32 0x3F87DC22#32)))))
      * Ideal.exp ((0 - max v (-v)) * max v (-v)))

/-- The gelu activation over a given error function. -/
def gelu (erf : EReal → EReal) (u : EReal) : EReal :=
  Ideal.ofBits .f32 0x3F000000#32 * u * (1 + erf (u * Ideal.ofBits .f32 0x3F3504F3#32))

/-- A row's gate. -/
def gate {n p q : ℕ} (erf : EReal → EReal) (x : Fin n → Fin p → EReal) (w1 : Fin p → Fin q → EReal) (b1 : Fin q → EReal)
    (w2 : Fin q → EReal) (b2 : EReal) (i : Fin n) : EReal :=
  Ideal.logistic ((∑ k, gelu erf (project x w1 i k + b1 k) * w2 k) + b2)

/-- The edge gate of two rows. -/
def edge {n : ℕ} (g : Fin n → EReal) (thr : EReal) (i j : Fin n) : EReal :=
  Ideal.logistic ((g i * g j - thr) * Ideal.ofBits .f32 0x41200000#32)

end Knn

end
-- ==== Proof.Scale.lean ====
/- The similarity of a pair: the kernel's exponential of the squared distance times a scale is the reference's
   exponential of the negated square of the distance over its denominator. -/
module

public import proofs.«01_k».proof.Proof.Spec

@[expose] public section

noncomputable section

namespace Knn

open Idealize.ShloMosaic

/-- The real number behind the smallest squared distance. -/
def epsReal : ℝ := 9223372 / 2 ^ 63

/-- The smallest squared distance is that real number. -/
theorem eps_eq : eps = (epsReal : EReal) := by
  unfold eps epsReal
  simp [Ideal.ofBits, Ideal.ieee, -EReal.coe_mul]
  norm_num

/-- The smallest squared distance is positive. -/
theorem epsReal_pos : 0 < epsReal := by unfold epsReal; positivity

/-- The number added to a denominator is a positive real. -/
theorem tiny_eq : ∃ r : ℝ, 0 < r ∧ tiny = (r : EReal) := by
  refine ⟨11258999 / 2 ^ 50, by positivity, ?_⟩
  unfold tiny
  simp [Ideal.ofBits, Ideal.ieee, -EReal.coe_mul]
  norm_num

/-- The constant two. -/
theorem two_eq : two = ((2 : ℝ) : EReal) := by
  unfold two
  simp [Ideal.ofBits, Ideal.ieee, -EReal.coe_mul]
  norm_num

/-- The constant minus one. -/
theorem minusOne_eq : Ideal.ofBits .f32 0xBF800000#32 = -1 := by
  have : Ideal.ofBits .f32 0xBF800000#32 = ((-1 : ℝ) : EReal) := by
    simp [Ideal.ofBits, Ideal.ieee, -EReal.coe_mul]
    norm_num
  rw [this]; rfl

/-- The constant four. -/
theorem four_eq : Ideal.ofBits .f32 0x40800000#32 = ((4 : ℝ) : EReal) := by
  simp [Ideal.ofBits, Ideal.ieee, -EReal.coe_mul]
  norm_num

/-- Two to the minus twenty-two. -/
theorem step_eq : Ideal.ofBits .f32 0x34800000#32 = ((1 / 2 ^ 22 : ℝ) : EReal) := by
  simp [Ideal.ofBits, Ideal.ieee, -EReal.coe_mul]
  norm_num

/-- A square is not negative. -/
theorem sq_nonneg (m : EReal) : 0 ≤ m * m := by
  induction m using EReal.rec with
  | bot => simp
  | top => simp
  | coe r => rw [← EReal.coe_mul]; exact_mod_cast mul_self_nonneg r

/-- The denominator of a head's similarities is positive. -/
theorem denominator_pos (m : EReal) : 0 < two * (m * m) + tiny := by
  obtain ⟨r, hr, ht⟩ := tiny_eq
  have h2 : 0 ≤ two := by rw [two_eq]; exact_mod_cast (by norm_num : (0 : ℝ) ≤ 2)
  have h : 0 ≤ two * (m * m) := mul_nonneg h2 (sq_nonneg m)
  have ht0 : (0 : EReal) < tiny := by rw [ht]; exact_mod_cast hr
  calc (0 : EReal) < tiny := ht0
    _ = 0 + tiny := (zero_add _).symm
    _ ≤ _ := add_le_add_left h _

/-- Division by a number that is not zero. -/
theorem div_of_ne (x : EReal) {y : EReal} (hy : y ≠ 0) : Ideal.div x y = x * y⁻¹ := if_neg hy

/-- The root of a nonnegative number, squared. -/
theorem sqrt_sq {c : EReal} (hc : 0 ≤ c) : Ideal.sqrt c * Ideal.sqrt c = c := by
  induction c using EReal.rec with
  | bot => simp at hc
  | top => simp
  | coe r =>
    have hr : 0 ≤ r := by exact_mod_cast hc
    rw [Ideal.sqrt_coe, if_neg (not_lt.2 hr), ← EReal.coe_mul, Real.mul_self_sqrt hr]

/-- The root orders nonnegative numbers as they are. -/
theorem sqrt_lt_sqrt {c d : EReal} (hc : 0 ≤ c) (hd : 0 ≤ d) : Ideal.sqrt c < Ideal.sqrt d ↔ c < d := by
  induction c using EReal.rec with
  | bot => simp at hc
  | top => simp
  | coe r =>
    have hr : 0 ≤ r := by exact_mod_cast hc
    induction d using EReal.rec with
    | bot => simp at hd
    | top =>
      rw [Ideal.sqrt_coe, if_neg (not_lt.2 hr), Ideal.sqrt_top]
      exact ⟨fun _ => EReal.coe_lt_top _, fun _ => EReal.coe_lt_top _⟩
    | coe s =>
      have hs : 0 ≤ s := by exact_mod_cast hd
      rw [Ideal.sqrt_coe, if_neg (not_lt.2 hr), Ideal.sqrt_coe, if_neg (not_lt.2 hs)]
      rw [EReal.coe_lt_coe_iff, EReal.coe_lt_coe_iff]
      exact Real.sqrt_lt_sqrt_iff hr

/-- A kept squared distance is not negative. -/
theorem kept_nonneg (d : EReal) : 0 ≤ max d eps := by
  have : (0 : EReal) ≤ eps := by rw [eps_eq]; exact_mod_cast epsReal_pos.le
  exact this.trans (le_max_right _ _)

/-- The scale, over the mean distance. -/
theorem scale_eq (s : EReal) :
    scale s = -1 * (two * (Ideal.div s entries * Ideal.div s entries) + tiny)⁻¹ := by
  unfold scale
  rw [mul_assoc, div_of_ne _ (denominator_pos _).ne', minusOne_eq]

/-- The exponents agree. -/
theorem exponent_eq (d s : EReal) :
    max d eps * scale s = Ideal.div (-(Ideal.sqrt (max d eps) * Ideal.sqrt (max d eps)))
      (two * (Ideal.div s entries * Ideal.div s entries) + tiny) := by
  rw [sqrt_sq (kept_nonneg d), scale_eq, div_of_ne _ (denominator_pos _).ne', ← mul_assoc, mul_comm _ (-1 : EReal), neg_mul, one_mul]

/-- The exponent is not positive. -/
theorem exponent_nonpos (d s : EReal) : max d eps * scale s ≤ 0 := by
  have hi : 0 ≤ (two * (Ideal.div s entries * Ideal.div s entries) + tiny)⁻¹ :=
    EReal.inv_nonneg_of_nonneg (denominator_pos _).le
  have : max d eps * scale s = -(max d eps * (two * (Ideal.div s entries * Ideal.div s entries) + tiny)⁻¹) := by
    rw [scale_eq, neg_mul, one_mul, mul_neg]
  rw [this, EReal.neg_le]
  simpa using mul_nonneg (kept_nonneg d) hi

/-- The exponential of a number not above zero lies in [0, 1]. -/
theorem exp_bounds {x : EReal} (hx : x ≤ 0) : 0 ≤ Ideal.exp x ∧ Ideal.exp x ≤ 1 := by
  induction x using EReal.rec with
  | bot => simp
  | top => simp at hx
  | coe r =>
    have hr : r ≤ 0 := by exact_mod_cast hx
    rw [Ideal.exp_coe]
    refine ⟨by exact_mod_cast (Real.exp_pos r).le, ?_⟩
    exact_mod_cast Real.exp_le_one_iff.2 hr

end Knn

end
-- ==== Proof.Bisect.lean ====
module

public import Idealize.ShloMosaic.PureOps.Ideal

/-!
  The neighbour search of the kernel, over plain functions on extended reals: a bisection of the
  interval from zero to the largest squared distance of a row, keeping the half in which the count of
  entries at most the midpoint reaches `K`. When the `K`-th and the `(K+1)`-th smallest entries of the
  row are further apart than the interval is wide at the end, the upper end of the interval separates
  exactly the `K` smallest entries.
-/

@[expose] public section

set_option maxRecDepth 16384

noncomputable section

namespace Knn

open scoped BigOperators

/-- How many entries of the row are at most `t`, counted in the extended reals. -/
def countLe {n : ℕ} (d : Fin n → EReal) (t : EReal) : EReal := ∑ j, if d j ≤ t then (1 : EReal) else 0

/-- The midpoint of an interval. -/
def middle (s : EReal × EReal) : EReal := ((1 / 2 : ℝ) : EReal) * (s.1 + s.2)

/-- One step of the bisection: the lower half when enough entries are at most the midpoint. -/
def halve {n : ℕ} (d : Fin n → EReal) (K : EReal) (s : EReal × EReal) : EReal × EReal :=
  (if K ≤ countLe d (middle s) then s.1 else middle s, if K ≤ countLe d (middle s) then middle s else s.2)

/-- The upper end of the interval after `steps` bisection steps from zero and the row's largest entry. -/
def threshold {n : ℕ} (d : Fin n → EReal) (K : EReal) (steps : ℕ) : EReal :=
  ((halve d K)^[steps] (0, Finset.univ.sup d)).2

/-- The set of entries at most `t`. -/
def below {n : ℕ} (d : Fin n → EReal) (t : EReal) : Finset (Fin n) := Finset.univ.filter fun j => d j ≤ t

/-- The count in the extended reals is the cardinality of the set. -/
theorem countLe_eq {n : ℕ} (d : Fin n → EReal) (t : EReal) : countLe d t = (((below d t).card : ℝ) : EReal) := by
  unfold countLe below
  rw [← Finset.sum_filter, Finset.sum_const, EReal.coe_natCast, nsmul_one]

/-- The test of a step in terms of the cardinality. -/
theorem le_countLe_iff {n : ℕ} (d : Fin n → EReal) (t : EReal) (K : ℕ) :
    ((K : ℝ) : EReal) ≤ countLe d t ↔ K ≤ (below d t).card := by
  rw [countLe_eq, EReal.coe_le_coe_iff, Nat.cast_le]

/-- The midpoint of a real interval is the real midpoint. -/
theorem middle_coe (lo hi : ℝ) : middle ((lo : EReal), (hi : EReal)) = (((lo + hi) / 2 : ℝ) : EReal) := by
  unfold middle
  simp only
  rw [← EReal.coe_add, ← EReal.coe_mul]
  congr 1
  ring

/-- What the bisection keeps: a real interval of width `M / 2 ^ k` from zero up, whose upper end has at
    least `K` entries below it and whose lower end is zero or has fewer. -/
theorem halve_invariant {n : ℕ} (d : Fin n → EReal) (K : ℕ) (M : ℝ) (hM : 0 ≤ M)
    (hK : K ≤ (below d (M : EReal)).card) (k : ℕ) :
    ∃ lo hi : ℝ, (halve d ((K : ℝ) : EReal))^[k] (0, (M : EReal)) = ((lo : EReal), (hi : EReal)) ∧ 0 ≤ lo
      ∧ hi - lo = M / 2 ^ k ∧ K ≤ (below d (hi : EReal)).card ∧ (lo = 0 ∨ (below d (lo : EReal)).card < K) := by
  induction k with
  | zero => exact ⟨0, M, by simp, le_refl _, by simp, hK, .inl rfl⟩
  | succ k ih =>
    obtain ⟨lo, hi, he, h0, hw, hc, hl⟩ := ih
    have hw0 : 0 ≤ hi - lo := by rw [hw]; positivity
    rw [Function.iterate_succ_apply', he]
    unfold halve
    rw [middle_coe]
    by_cases hk : K ≤ (below d (((lo + hi) / 2 : ℝ) : EReal)).card
    · refine ⟨lo, (lo + hi) / 2, ?_, h0, ?_, hk, hl⟩
      · rw [if_pos ((le_countLe_iff d _ K).mpr hk), if_pos ((le_countLe_iff d _ K).mpr hk)]
      · rw [pow_succ, ← div_div, ← hw]; ring
    · refine ⟨(lo + hi) / 2, hi, ?_, by linarith, ?_, hc, .inr (not_le.mp hk)⟩
      · rw [if_neg (fun h => hk ((le_countLe_iff d _ K).mp h)), if_neg (fun h => hk ((le_countLe_iff d _ K).mp h))]
      · rw [pow_succ, ← div_div, ← hw]; ring

/-- The `K` smallest entries of a row, in an order `σ` of the row by the entries clamped below at `ε`, are
    the ones at most the threshold, when the gap after the `K`-th of them is wider than the largest clamped
    entry times `δ`, the relative width of the final interval. -/
theorem le_threshold_iff {n K : ℕ} (hKn : K < n) (hK : 0 < K) (d : Fin n → EReal) (ε : ℝ) (hε : 0 < ε)
    (σ : Fin n → Fin n) (hσ : Function.Bijective σ) (steps : ℕ)
    (hmono : ∀ a b : Fin n, a ≤ b → max (d (σ a)) (ε : EReal) ≤ max (d (σ b)) (ε : EReal))
    (hgap : (Finset.univ.sup fun j => max (d j) (ε : EReal)) * (((1 / 2 ^ steps : ℝ)) : EReal)
      < max (d (σ ⟨K, hKn⟩)) (ε : EReal) - max (d (σ ⟨K - 1, by omega⟩)) (ε : EReal)) (j : Fin n) :
    d j ≤ threshold d ((K : ℝ) : EReal) steps ↔ ∃ k : Fin n, k.val < K ∧ σ k = j := by
  set c : Fin n → EReal := fun j => max (d j) (ε : EReal) with hc
  set Mc : EReal := Finset.univ.sup c with hMc
  have hcle : ∀ j, c j ≤ Mc := fun j => Finset.le_sup (f := c) (Finset.mem_univ j)
  have hεc : ∀ j, (ε : EReal) ≤ c j := fun j => le_max_right _ _
  have hδ : (0 : EReal) < ((1 / 2 ^ steps : ℝ) : EReal) := by
    rw [← EReal.coe_zero, EReal.coe_lt_coe_iff]; positivity
  have hMctop : Mc ≠ ⊤ := by
    intro h
    rw [h, EReal.top_mul_of_pos hδ] at hgap
    exact not_top_lt hgap
  have hMc0 : (ε : EReal) ≤ Mc := (hεc ⟨0, by omega⟩).trans (hcle _)
  have hMcbot : Mc ≠ ⊥ := fun h => by rw [h] at hMc0; exact absurd hMc0 (not_le.mpr (EReal.bot_lt_coe ε))
  obtain ⟨m, hm⟩ : ∃ m : ℝ, Mc = (m : EReal) := ⟨Mc.toReal, (EReal.coe_toReal hMctop hMcbot).symm⟩
  have hcr : ∀ j, ∃ r : ℝ, c j = (r : EReal) ∧ ε ≤ r ∧ r ≤ m := by
    intro j
    have h1 : c j ≠ ⊤ := fun h => hMctop (top_le_iff.mp (h ▸ hcle j))
    have h2 : c j ≠ ⊥ := fun h => absurd (h ▸ hεc j) (not_le.mpr (EReal.bot_lt_coe ε))
    refine ⟨(c j).toReal, (EReal.coe_toReal h1 h2).symm, ?_, ?_⟩
    · rw [← EReal.coe_le_coe_iff, EReal.coe_toReal h1 h2]; exact hεc j
    · rw [← EReal.coe_le_coe_iff, EReal.coe_toReal h1 h2, ← hm]; exact hcle j
  obtain ⟨v1, hv1, hv1e, hv1m⟩ := hcr (σ ⟨K, hKn⟩)
  obtain ⟨v0, hv0, hv0e, hv0m⟩ := hcr (σ ⟨K - 1, by omega⟩)
  have hgap' : m * (1 / 2 ^ steps) < v1 - v0 := by
    have h : Mc * (((1 / 2 ^ steps : ℝ)) : EReal) < c (σ ⟨K, hKn⟩) - c (σ ⟨K - 1, by omega⟩) := hgap
    rw [hm, hv1, hv0, ← EReal.coe_mul, ← EReal.coe_sub, EReal.coe_lt_coe_iff] at h
    exact h
  have hm0 : 0 < m := lt_of_lt_of_le hε (hv1e.trans hv1m)
  have hpos : 0 < m * (1 / 2 ^ steps) := by positivity
  have hlt : ε < v1 := by linarith
  -- an entry of rank beyond `K` is its own clamp
  have hbig : ∀ a : Fin n, K ≤ a.val → (v1 : EReal) ≤ d (σ a) := by
    intro a ha
    have h : c (σ ⟨K, hKn⟩) ≤ c (σ a) := hmono ⟨K, hKn⟩ a ha
    rw [hv1] at h
    rcases le_max_iff.mp h with h' | h'
    · exact h'
    · exact absurd h' (not_le.mpr (EReal.coe_lt_coe_iff.mpr hlt))
  have hsup : Finset.univ.sup d = (m : EReal) := by
    apply le_antisymm
    · rw [← hm]; exact Finset.sup_mono_fun fun j _ => le_max_left _ _
    · rw [← hm]
      apply Finset.sup_le
      intro j _
      apply max_le
      · exact Finset.le_sup (f := d) (Finset.mem_univ j)
      · refine le_trans ?_ (Finset.le_sup (f := d) (Finset.mem_univ (σ ⟨K, hKn⟩)))
        exact le_trans (EReal.coe_le_coe_iff.mpr hlt.le) (hbig ⟨K, hKn⟩ (le_refl _))
  have hall : K ≤ (below d (m : EReal)).card := by
    have : below d (m : EReal) = Finset.univ := by
      ext j; simp only [below, Finset.mem_filter, Finset.mem_univ, true_and, iff_true, ← hsup]
      exact Finset.le_sup (f := d) (Finset.mem_univ j)
    rw [this, Finset.card_univ, Fintype.card_fin]; omega
  obtain ⟨lo, hi, he, h0, hw, hcnt, hl⟩ := halve_invariant d K m hm0.le hall steps
  have hthr : threshold d ((K : ℝ) : EReal) steps = (hi : EReal) := by
    unfold threshold; rw [hsup, he]
  -- the `K` first in the order
  let A : Finset (Fin n) := (Finset.univ.filter fun a : Fin n => a.val < K).image σ
  have hAcard : A.card = K := by
    rw [Finset.card_image_of_injective _ hσ.injective]
    rw [Fin.card_filter_val_lt]; omega
  have hAmem : ∀ j, j ∈ A ↔ ∃ k : Fin n, k.val < K ∧ σ k = j := by
    intro j; simp [A]
  have hsmall : ∀ a : Fin n, a.val < K → d (σ a) ≤ (v0 : EReal) := by
    intro a ha
    have h : c (σ a) ≤ c (σ ⟨K - 1, by omega⟩) := hmono a ⟨K - 1, by omega⟩ (by rw [Fin.le_def]; simp only; omega)
    rw [hv0] at h
    exact (le_max_left _ _).trans h
  have hlo : lo ≤ v0 := by
    rcases hl with h | h
    · rw [h]; linarith
    · by_contra hcon
      have hsub : A ⊆ below d (lo : EReal) := by
        intro j hj
        obtain ⟨k, hk, rfl⟩ := (hAmem j).mp hj
        simp only [below, Finset.mem_filter, Finset.mem_univ, true_and]
        exact (hsmall k hk).trans (EReal.coe_le_coe_iff.mpr (not_le.mp hcon).le)
      have := Finset.card_le_card hsub
      omega
  have hhi : hi < v1 := by
    have : m / 2 ^ steps = m * (1 / 2 ^ steps) := by ring
    linarith
  have hsub : below d (hi : EReal) ⊆ A := by
    intro j hj
    simp only [below, Finset.mem_filter, Finset.mem_univ, true_and] at hj
    obtain ⟨a, rfl⟩ := hσ.surjective j
    rw [hAmem]
    refine ⟨a, ?_, rfl⟩
    by_contra hcon
    have h := (hbig a (not_lt.mp hcon)).trans hj
    exact absurd (EReal.coe_le_coe_iff.mp h) (not_le.mpr hhi)
  have heq : below d (hi : EReal) = A := Finset.eq_of_subset_of_card_le hsub (by rw [hAcard]; exact hcnt)
  rw [hthr, ← hAmem, ← heq]
  simp [below]

end Knn
-- ==== Proof.RefNear.lean ====
/- The reference's neighbour arrays at an index: the distances, the order of a row's distances and the mask of the
   nearest. -/
module

public import proofs.«01_k».proof.Proof.Gen.ReferenceIdeal.Run
public import proofs.«01_k».proof.Proof.Spec
public import Idealize.ShloMosaic.Lib.SortFacts
public import Idealize.ShloMosaic.Lib.Pointwise

@[expose] public section

set_option maxRecDepth 16384

noncomputable section

namespace Knn

open Idealize.ShloMosaic

/-- The positions of a row of 440 keys, the greatest first, equal keys in position order. -/
def descending (d : Fin 440 → EReal) : Fin 440 → Fin 440 :=
  sortedFrom fun k k' => (FloatOps.cmpfTotal (F := Ideal) (φ := .f32) .gt (d k) (d k')) == 1#1

/-- The order, unfolded. -/
theorem descending_eq (d : Fin 440 → EReal) : descending d
    = sortedFrom fun k k' => (FloatOps.cmpfTotal (F := Ideal) (φ := .f32) .gt (d k) (d k')) == 1#1 := rfl

/-- One where a statement holds, zero elsewhere. -/
def ind (p : Prop) : EReal := open Classical in if p then 1 else 0

/-- Equivalent statements have equal indicators. -/
theorem ind_congr {p q : Prop} (h : p ↔ q) : ind p = ind q := congrArg ind (propext h)

/-- The indicator of a statement that holds. -/
theorem ind_pos {p : Prop} (h : p) : ind p = 1 := if_pos h

/-- The indicator of a statement that fails. -/
theorem ind_neg {p : Prop} (h : ¬p) : ind p = 0 := if_neg h

/-- One where the first `K` positions of an order include `j`, zero elsewhere. -/
def amongFirst (K : ℕ) (σ : Fin 440 → Fin 440) (j : Fin 440) : EReal :=
  ind (∃ k : Fin 440, k.val < K ∧ σ k = j)

/-- The greatest of indicators is the indicator of some. -/
theorem fold_max_indicator {n : ℕ} (b : EReal) (hb : b = ⊥) (f : Fin n → EReal) (p : Fin n → Prop)
    (h : ∀ k, f k = ind (p k)) (k0 : Fin n) :
    Finset.fold max b f Finset.univ = ind (∃ k, p k) := by
  subst hb
  have h01 : (0 : EReal) ≤ 1 := zero_le_one
  by_cases hp : ∃ k, p k
  · rw [ind_pos hp]
    obtain ⟨k, hk⟩ := hp
    refine le_antisymm ((Finset.fold_max_le _).2 ⟨bot_le, fun k _ => ?_⟩) ((Finset.le_fold_max _).2 (Or.inr ⟨k, Finset.mem_univ _, ?_⟩))
    · rw [h]; by_cases q : p k
      · rw [ind_pos q]
      · rw [ind_neg q]; exact h01
    · rw [h, ind_pos hk]
  · rw [ind_neg hp]
    refine le_antisymm ((Finset.fold_max_le _).2 ⟨bot_le, fun k _ => ?_⟩) ((Finset.le_fold_max _).2 (Or.inr ⟨k0, Finset.mem_univ _, ?_⟩))
    · rw [h, ind_neg fun q => hp ⟨k, q⟩]
    · rw [h, ind_neg fun q => hp ⟨k0, q⟩]

/-- The float of an integer equality's bit. -/
theorem uitofp_eq {w : ℕ} (u v : BitVec w) :
    FloatOps.uitofp (F := Ideal) FTy.f32 (IntOp.cmpi CmpIPredicate.eq u v) = ind (u = v) := by
  by_cases h : u = v
  · rw [ind_pos h]; subst h
    simp [IntOp.cmpi, FloatOps.uitofp]
  · rw [ind_neg h]
    simp [IntOp.cmpi, FloatOps.uitofp, h]

end Knn

attribute [local irreducible] Idealize.ShloMosaic.sortedFrom Knn.descending

namespace Cert.ReferenceIdeal.Read

open Idealize.ShloMosaic
open Cert.ReferenceIdeal Cert.ReferenceIdeal.Gen

/-- The distances of the rows of `P` in each batch entry, as printed. -/
def distArr (P : FVec Ideal S32x440x32 .f32) : FVec Ideal S32x440x440 .f32 :=
  let q : FVec Ideal S32x440 .f32 := Host.reduceAdd (mulf P P) (constant S_ .f32 0x00000000#32) reducesTo_S32x440x32_S32x440_d2 h_S_
  Host.sqrt (maximumf (subf (addf (broadcastInDim S32x440x440 ![0, 1, 2] bcast_S32x440x1_S32x440x440_0_1_2 (broadcastInDim S32x440x1 ![0, 1] bcast_S32x440_S32x440x1_0_1 q)) (broadcastInDim S32x440x440 ![0, 1, 2] bcast_S32x1x440_S32x440x440_0_1_2 (broadcastInDim S32x1x440 ![0, 2] bcast_S32x440_S32x1x440_0_2 q))) (mulf (broadcastInDim S32x440x440 ![] bcast_S_S32x440x440 (constant S_ .f32 0x40000000#32)) (Host.dotGeneral dot_S32x440x32_S32x440x32_S32x440x440_2_2_1_1_0_0 none P P))) (broadcastInDim S32x440x440 ![] bcast_S_S32x440x440 (constant S_ .f32 0x2B8CBCCC#32)))

/-- A distance is the distance of two rows. -/
theorem distArr_apply (P : FVec Ideal S32x440x32 .f32) (b : Fin 32) (i j : Fin 440) :
    distArr P (ix3 b i j) = Knn.dist (fun i k => P (ix3 b i k)) i j := by
  pointwise [distArr]
  rfl

/-- The positions of the 66 greatest keys of each row, as words. -/
def topArr (x : FVec Ideal S32x440x440 .f32) : IVec S32x440x66 32 :=
  (Host.topK S32x440x66 2 (FloatOps.cmpfTotal (F := Ideal) (φ := .f32) .gt) x sliceFits_S32x440x440_S32x440x66).2

/-- The word at rank `k` of a row is the position the descending order puts there. -/
theorem topArr_apply (x : FVec Ideal S32x440x440 .f32) (b : Fin 32) (i : Fin 440) (k : Fin 66) :
    topArr x (ix3 b i k) = BitVec.ofNat 32 (Knn.descending (fun j => x (ix3 b i j)) (Fin.castLE (by decide) k)).val := by
  have hd : 2 < S32x440x440.rank := by decide
  have hs : ∀ l : Fin 440, (ix3 b i (Fin.castLE (by decide) k) : S32x440x440.Idx).along ⟨2, hd⟩ l = ix3 b i l := by
    intro l; funext a
    match a with
    | ⟨0, _⟩ => rfl
    | ⟨1, _⟩ => rfl
    | ⟨2, _⟩ => rfl
  have hk : ∀ (h : S32x440x440.Slices (fun _ => 0) S32x440x66) (v : IVec S32x440x440 32),
      extractStridedSlice S32x440x66 (fun _ => 0) v h (ix3 b i k) = v (ix3 b i (Fin.castLE (by decide) k)) := by
    intro h v
    pointwise []
    rfl
  unfold topArr Host.topK
  dsimp only
  rw [hk]
  unfold Host.sort2
  rw [dif_pos hd]
  dsimp only
  rw [dif_pos hd]
  refine (congrArg (iotaInDim S32x440x440 32 ⟨2, hd⟩) (hs _)).trans ?_
  show BitVec.ofNat 32 (sortedFrom _ _).val = _
  have hB : (fun k_1 k' : Fin 440 => FloatOps.cmpfTotal (F := Ideal) (φ := .f32) .gt (x ((ix3 b i (Fin.castLE (by decide) k) : S32x440x440.Idx).along ⟨2, hd⟩ k_1)) (x ((ix3 b i (Fin.castLE (by decide) k) : S32x440x440.Idx).along ⟨2, hd⟩ k')) == 1#1)
      = fun k_1 k' => FloatOps.cmpfTotal (F := Ideal) (φ := .f32) .gt (x (ix3 b i k_1)) (x (ix3 b i k')) == 1#1 := by
    funext a a'
    exact congrArg₂ (fun u v => FloatOps.cmpfTotal (F := Ideal) (φ := .f32) .gt (x u) (x v) == 1#1) (hs a) (hs a')
  rw [Knn.descending_eq]
  exact congrArg (fun B : Fin 440 → Fin 440 → Bool => BitVec.ofNat 32 (sortedFrom B (Fin.castLE (by decide) k)).val) hB

/-- One where a row's 66 greatest keys include the column, as printed. -/
def nearArr (x : FVec Ideal S32x440x440 .f32) : FVec Ideal S32x440x440 .f32 :=
  Host.reduce (FloatOps.maximumf (F := Ideal) (φ := .f32)) (uitofp .f32 (cmpi .eq (broadcastInDim S32x440x66x440 ![0, 1, 2, 3] bcast_S32x440x66x1_S32x440x66x440_0_1_2_3 (broadcastInDim S32x440x66x1 ![0, 1, 2] bcast_S32x440x66_S32x440x66x1_0_1_2 (topArr x))) (broadcastInDim S32x440x66x440 ![0, 1, 2, 3] bcast_S1x1x1x440_S32x440x66x440_0_1_2_3 (iotaInDim S1x1x1x440 32 3)))) (constant S_ .f32 0xFF800000#32) reducesTo_S32x440x66x440_S32x440x440_d2 h_S_

/-- The mask at an entry: one exactly where the column is among the row's 66 greatest keys. -/
theorem nearArr_apply (x : FVec Ideal S32x440x440 .f32) (b : Fin 32) (i j : Fin 440) :
    nearArr x (ix3 b i j) = Knn.amongFirst 66 (Knn.descending fun j => x (ix3 b i j)) j := by
  have h : ∀ T : IVec S32x440x66 32, (Host.reduce (FloatOps.maximumf (F := Ideal) (φ := .f32)) (uitofp .f32 (cmpi .eq (broadcastInDim S32x440x66x440 ![0, 1, 2, 3] bcast_S32x440x66x1_S32x440x66x440_0_1_2_3 (broadcastInDim S32x440x66x1 ![0, 1, 2] bcast_S32x440x66_S32x440x66x1_0_1_2 T)) (broadcastInDim S32x440x66x440 ![0, 1, 2, 3] bcast_S1x1x1x440_S32x440x66x440_0_1_2_3 (iotaInDim S1x1x1x440 32 3)))) (constant S_ .f32 0xFF800000#32) reducesTo_S32x440x66x440_S32x440x440_d2 h_S_ : FVec Ideal S32x440x440 .f32) (ix3 b i j)
      = Finset.fold max (Ideal.ofBits FTy.f32 0xFF800000#32)
        (fun k => FloatOps.uitofp (F := Ideal) FTy.f32 (IntOp.cmpi CmpIPredicate.eq (T (ix3 b i k)) (BitVec.ofNat 32 j.val))) Finset.univ := by
    intro T
    pointwise []
  refine (h (topArr x)).trans ?_
  refine (Knn.fold_max_indicator _ (by simp [Ideal.ofBits, Ideal.ieee]) _
    (fun k : Fin 66 => Knn.descending (fun j => x (ix3 b i j)) (Fin.castLE (by decide) k) = j) (fun k => ?_) 0).trans ?_
  · rw [topArr_apply, Knn.uitofp_eq]
    have h1 := (Knn.descending (fun j => x (ix3 b i j)) (Fin.castLE (by decide) k)).isLt
    have h2 := j.isLt
    refine Knn.ind_congr ⟨fun e => Fin.ext ?_, fun e => by rw [e]⟩
    have e' := congrArg BitVec.toNat e
    rw [BitVec.toNat_ofNat, BitVec.toNat_ofNat, Nat.mod_eq_of_lt (by omega), Nat.mod_eq_of_lt (by omega)] at e'
    exact e'
  · unfold Knn.amongFirst
    refine Knn.ind_congr ⟨?_, ?_⟩
    · rintro ⟨k, hk⟩; exact ⟨Fin.castLE (by decide) k, k.isLt, hk⟩
    · rintro ⟨k, hk, e⟩; exact ⟨⟨k.val, hk⟩, e⟩

end Cert.ReferenceIdeal.Read

end
-- ==== Proof.RefHead.lean ====
/- The reference's adjacency at an index: the mean of four heads' similarities at their neighbours. -/
module

public import proofs.«01_k».proof.Proof.RefNear

@[expose] public section

set_option maxRecDepth 16384

noncomputable section

attribute [local irreducible] Idealize.ShloMosaic.sortedFrom Knn.descending

namespace Knn

open Idealize.ShloMosaic

/-- One head's term of the adjacency, as the reference computes it: the similarity of the pair from its distance `D` and
the mean distance `m`, at the pairs of which either is among the other's 66 nearest. -/
def headTermRef (D : Fin 440 → Fin 440 → EReal) (m : EReal) (i j : Fin 440) : EReal :=
  Ideal.exp (Ideal.div (-(D i j * D i j)) (two * (m * m) + tiny))
    * max (amongFirst 66 (descending fun k => -D i k) j) (amongFirst 66 (descending fun k => -D j k) i)

end Knn

namespace Cert.ReferenceIdeal.Read

open Idealize.ShloMosaic
open Cert.ReferenceIdeal Cert.ReferenceIdeal.Gen

/-- The mean of an array of distances, as printed. -/
def meanArr (D : FVec Ideal S32x440x440 .f32) : FVec Ideal S_ .f32 :=
  Host.divf (Host.reduceAdd D (constant S_ .f32 0x00000000#32) reducesTo_S32x440x440_S_d0_1_2 h_S_) (constant S_ .f32 0x4ABD1000#32)

/-- The mean of an array of distances. -/
theorem meanArr_apply (D : FVec Ideal S32x440x440 .f32) :
    meanArr D ix0 = Ideal.div (∑ b : Fin 32, ∑ i : Fin 440, ∑ j : Fin 440, D (ix3 b i j)) Knn.entries := by
  pointwise [meanArr]
  rfl

/-- One head's term, as printed. -/
def termArr (D M : FVec Ideal S32x440x440 .f32) (m : FVec Ideal S_ .f32) : FVec Ideal S32x440x440 .f32 :=
  mulf (Host.exp (Host.divf (Host.negf (mulf D D)) (broadcastInDim S32x440x440 ![] bcast_S_S32x440x440 (addf (mulf (constant S_ .f32 0x40000000#32) (mulf m m)) (constant S_ .f32 0x322BCC77#32))))) (maximumf M (transpose S32x440x440 [0, 2, 1] M transposes_S32x440x440_S32x440x440_0_2_1))

/-- One head's term at an entry. -/
theorem termArr_apply (D M : FVec Ideal S32x440x440 .f32) (m : FVec Ideal S_ .f32) (b : Fin 32) (i j : Fin 440) :
    termArr D M m (ix3 b i j) = Ideal.exp (Ideal.div (-(D (ix3 b i j) * D (ix3 b i j))) (Knn.two * (m ix0 * m ix0) + Knn.tiny))
      * max (M (ix3 b i j)) (M (ix3 b j i)) := by
  pointwise [termArr]
  rfl

/-- The mean of four arrays stacked, as printed. -/
def mean4Arr (T0 T1 T2 T3 : FVec Ideal S32x440x440 .f32) : FVec Ideal S32x440x440 .f32 :=
  Host.divf (Host.reduceAdd ((concatenate S4x32x440x440 0 [⟨S1x32x440x440, (broadcastInDim S1x32x440x440 ![1, 2, 3] bcast_S32x440x440_S1x32x440x440_1_2_3 T0 : (⟨S1x32x440x440, .f32⟩ : BufTy).Contents (Elt Ideal))⟩, ⟨S1x32x440x440, (broadcastInDim S1x32x440x440 ![1, 2, 3] bcast_S32x440x440_S1x32x440x440_1_2_3 T1 : (⟨S1x32x440x440, .f32⟩ : BufTy).Contents (Elt Ideal))⟩, ⟨S1x32x440x440, (broadcastInDim S1x32x440x440 ![1, 2, 3] bcast_S32x440x440_S1x32x440x440_1_2_3 T2 : (⟨S1x32x440x440, .f32⟩ : BufTy).Contents (Elt Ideal))⟩, ⟨S1x32x440x440, (broadcastInDim S1x32x440x440 ![1, 2, 3] bcast_S32x440x440_S1x32x440x440_1_2_3 T3 : (⟨S1x32x440x440, .f32⟩ : BufTy).Contents (Elt Ideal))⟩] concatenates_S1x32x440x440_S1x32x440x440_S1x32x440x440_S1x32x440x440_S4x32x440x440_d0 : (⟨S4x32x440x440, .f32⟩ : BufTy).Contents (Elt Ideal)) : FVec Ideal S4x32x440x440 .f32) (constant S_ .f32 0x00000000#32) reducesTo_S4x32x440x440_S32x440x440_d0 h_S_) (broadcastInDim S32x440x440 ![] bcast_S_S32x440x440 (constant S_ .f32 0x40800000#32))

/-- The mean of four arrays at an entry. -/
theorem mean4Arr_apply (T0 T1 T2 T3 : FVec Ideal S32x440x440 .f32) (b : Fin 32) (i j : Fin 440) :
    mean4Arr T0 T1 T2 T3 (ix3 b i j)
      = Ideal.div (T0 (ix3 b i j) + T1 (ix3 b i j) + T2 (ix3 b i j) + T3 (ix3 b i j)) (Ideal.ofBits .f32 0x40800000#32) := by
  pointwise [mean4Arr]
  rw [Fin.sum_univ_four]
  rfl

open Cert.ReferenceIdeal.Value

variable (V0 : Valuation τ sig (Elt Ideal))

/-- Head 0's projected rows. -/
theorem proj0 (b : Fin 32) (i : Fin 440) (k : Fin 32) : res_main_v2 V0 (ix3 b i k)
    = Knn.project (fun i d => V0 (Proc.devRef .tc main_arg0) (ix3 b i d)) (fun d k => V0 (Proc.devRef .tc main_arg1) (ix3 0 d k)) i k := by
  pointwise [res_main_v2]
  rfl

/-- Head 1's projected rows. -/
theorem proj1 (b : Fin 32) (i : Fin 440) (k : Fin 32) : res_main_v35 V0 (ix3 b i k)
    = Knn.project (fun i d => V0 (Proc.devRef .tc main_arg0) (ix3 b i d)) (fun d k => V0 (Proc.devRef .tc main_arg1) (ix3 1 d k)) i k := by
  pointwise [res_main_v35]
  rfl

/-- Head 2's projected rows. -/
theorem proj2 (b : Fin 32) (i : Fin 440) (k : Fin 32) : res_main_v68 V0 (ix3 b i k)
    = Knn.project (fun i d => V0 (Proc.devRef .tc main_arg0) (ix3 b i d)) (fun d k => V0 (Proc.devRef .tc main_arg1) (ix3 2 d k)) i k := by
  pointwise [res_main_v68]
  rfl

/-- Head 3's projected rows. -/
theorem proj3 (b : Fin 32) (i : Fin 440) (k : Fin 32) : res_main_v101 V0 (ix3 b i k)
    = Knn.project (fun i d => V0 (Proc.devRef .tc main_arg0) (ix3 b i d)) (fun d k => V0 (Proc.devRef .tc main_arg1) (ix3 3 d k)) i k := by
  pointwise [res_main_v101]
  rfl

/-- The adjacency, from the four heads' projections. -/
theorem adj_eq : res_main_v139 V0 = mean4Arr
    (termArr (distArr (res_main_v2 V0)) (nearArr (Host.negf (distArr (res_main_v2 V0)))) (meanArr (distArr (res_main_v2 V0))))
    (termArr (distArr (res_main_v35 V0)) (nearArr (Host.negf (distArr (res_main_v35 V0)))) (meanArr (distArr (res_main_v35 V0))))
    (termArr (distArr (res_main_v68 V0)) (nearArr (Host.negf (distArr (res_main_v68 V0)))) (meanArr (distArr (res_main_v68 V0))))
    (termArr (distArr (res_main_v101 V0)) (nearArr (Host.negf (distArr (res_main_v101 V0)))) (meanArr (distArr (res_main_v101 V0)))) := by
  rfl

/-- One head's projected rows of one batch entry. -/
def headRows (b : Fin 32) (h : Fin 4) : Fin 440 → Fin 32 → EReal :=
  Knn.project (fun i d => V0 (Proc.devRef .tc main_arg0) (ix3 b i d)) fun d k => V0 (Proc.devRef .tc main_arg1) (ix3 h d k)

/-- One head's sum of distances over the batch. -/
def headTotal (h : Fin 4) : EReal := ∑ b : Fin 32, ∑ i : Fin 440, ∑ j : Fin 440, Knn.dist (headRows V0 b h) i j

/-- A head's term over its projection. -/
theorem term_of (P : FVec Ideal S32x440x32 .f32) (h : Fin 4) (hP : ∀ b i k, P (ix3 b i k) = headRows V0 b h i k)
    (b : Fin 32) (i j : Fin 440) :
    termArr (distArr P) (nearArr (Host.negf (distArr P))) (meanArr (distArr P)) (ix3 b i j)
      = Knn.headTermRef (Knn.dist (headRows V0 b h)) (Ideal.div (headTotal V0 h) Knn.entries) i j := by
  have hd : ∀ b i j, distArr P (ix3 b i j) = Knn.dist (headRows V0 b h) i j := by
    intro b i j
    rw [distArr_apply]
    exact congrArg (fun z => Knn.dist z i j) (funext fun i => funext fun k => hP b i k)
  have hn : ∀ b i, (fun j => Host.negf (distArr P) (ix3 b i j)) = fun j => -Knn.dist (headRows V0 b h) i j := by
    intro b i; funext j
    exact congrArg (fun e : EReal => -e) (hd b i j)
  rw [termArr_apply, nearArr_apply, nearArr_apply, meanArr_apply]
  simp only [hd, hn]
  rfl

/-- The adjacency at an entry. -/
theorem adj_apply (b : Fin 32) (i j : Fin 440) : res_main_v139 V0 (ix3 b i j)
    = Knn.meanOfFour fun h => Knn.headTermRef (Knn.dist (headRows V0 b h)) (Ideal.div (headTotal V0 h) Knn.entries) i j := by
  rw [adj_eq, mean4Arr_apply, term_of V0 _ 0 (proj0 V0), term_of V0 _ 1 (proj1 V0), term_of V0 _ 2 (proj2 V0), term_of V0 _ 3 (proj3 V0)]
  rfl

end Cert.ReferenceIdeal.Read

end
-- ==== Proof.MaskValue.lean ====
/- The entries the value claim is about, at an index: the two rows' 66th and 67th least squared distances are apart in
   every head. -/
module

public import proofs.«01_k».proof.Proof.Gen.On_resolved
public import proofs.«01_k».proof.Proof.RefNear

@[expose] public section

set_option maxRecDepth 16384

noncomputable section

attribute [local irreducible] Idealize.ShloMosaic.sortedFrom Knn.descending

namespace Knn

open Idealize.ShloMosaic

/-- The keys' 66th and 67th least lie further apart than the greatest key times 2^-22. -/
def Gap (c : Fin 440 → EReal) : Prop :=
  Finset.fold max (Ideal.ofBits .f32 0xFF800000#32) c Finset.univ * Ideal.ofBits .f32 0x34800000#32
    < -(-c (descending (fun j => -c j) ⟨66, by decide⟩)) - -(-c (descending (fun j => -c j) ⟨65, by decide⟩))

end Knn

namespace Cert.On_resolved.Read

open Idealize.ShloMosaic
open Cert.On_resolved Cert.On_resolved.Facts

/-- The squared distances of the rows of `P` kept above the smallest one, as printed. -/
def sqArr (P : FVec Ideal S32x440x32 .f32) : FVec Ideal S32x440x440 .f32 :=
  let q : FVec Ideal S32x440 .f32 := Host.reduceAdd (mulf P P) (constant S_ .f32 0x00000000#32) reducesTo_S32x440x32_S32x440_d2 h_S_
  maximumf (subf (addf (broadcastInDim S32x440x440 ![0, 1, 2] bcast_S32x440x1_S32x440x440_0_1_2 (broadcastInDim S32x440x1 ![0, 1] bcast_S32x440_S32x440x1_0_1 q)) (broadcastInDim S32x440x440 ![0, 1, 2] bcast_S32x1x440_S32x440x440_0_1_2 (broadcastInDim S32x1x440 ![0, 2] bcast_S32x440_S32x1x440_0_2 q))) (mulf (broadcastInDim S32x440x440 ![] bcast_S_S32x440x440 (constant S_ .f32 0x40000000#32)) (Host.dotGeneral dot_S32x440x32_S32x440x32_S32x440x440_2_2_1_1_0_0 none P P))) (broadcastInDim S32x440x440 ![] bcast_S_S32x440x440 (constant S_ .f32 0x2B8CBCCC#32))

/-- A squared distance kept above the smallest one. -/
theorem sqArr_apply (P : FVec Ideal S32x440x32 .f32) (b : Fin 32) (i j : Fin 440) :
    sqArr P (ix3 b i j) = max (Knn.sqDist (fun i k => P (ix3 b i k)) i j) Knn.eps := by
  pointwise [sqArr]
  rfl

/-- The 67 greatest keys of each row. -/
def topVals (x : FVec Ideal S32x440x440 .f32) : FVec Ideal S32x440x67 .f32 :=
  (Host.topK S32x440x67 2 (FloatOps.cmpfTotal (F := Ideal) (φ := .f32) .gt) x sliceFits_S32x440x440_S32x440x67).1

/-- The key at rank `k` of a row is the key at the position the descending order puts there. -/
theorem topVals_apply (x : FVec Ideal S32x440x440 .f32) (b : Fin 32) (i : Fin 440) (k : Fin 67) :
    topVals x (ix3 b i k) = x (ix3 b i (Knn.descending (fun j => x (ix3 b i j)) (Fin.castLE (by decide) k))) := by
  have hd : 2 < S32x440x440.rank := by decide
  have hs : ∀ l : Fin 440, (ix3 b i (Fin.castLE (by decide) k) : S32x440x440.Idx).along ⟨2, hd⟩ l = ix3 b i l := by
    intro l; funext a
    match a with
    | ⟨0, _⟩ => rfl
    | ⟨1, _⟩ => rfl
    | ⟨2, _⟩ => rfl
  have hk : ∀ (h : S32x440x440.Slices (fun _ => 0) S32x440x67) (v : FVec Ideal S32x440x440 .f32),
      extractStridedSlice S32x440x67 (fun _ => 0) v h (ix3 b i k) = v (ix3 b i (Fin.castLE (by decide) k)) := by
    intro h v
    pointwise []
    rfl
  unfold topVals Host.topK
  dsimp only
  rw [hk]
  unfold Host.sort2
  rw [dif_pos hd]
  dsimp only
  refine (congrArg x (hs _)).trans ?_
  have hB : (fun k_1 k' : Fin 440 => FloatOps.cmpfTotal (F := Ideal) (φ := .f32) .gt (x ((ix3 b i (Fin.castLE (by decide) k) : S32x440x440.Idx).along ⟨2, hd⟩ k_1)) (x ((ix3 b i (Fin.castLE (by decide) k) : S32x440x440.Idx).along ⟨2, hd⟩ k')) == 1#1)
      = fun k_1 k' => FloatOps.cmpfTotal (F := Ideal) (φ := .f32) .gt (x (ix3 b i k_1)) (x (ix3 b i k')) == 1#1 := by
    funext a a'
    exact congrArg₂ (fun u v => FloatOps.cmpfTotal (F := Ideal) (φ := .f32) .gt (x u) (x v) == 1#1) (hs a) (hs a')
  rw [Knn.descending_eq]
  exact congrArg (fun B : Fin 440 → Fin 440 → Bool => x (ix3 b i (sortedFrom B (Fin.castLE (by decide) k)))) hB

/-- Whether each row's 66th and 67th least keys are apart, as printed over any array of keys and any sorted ones. -/
def apartArr (C : FVec Ideal S32x440x440 .f32) (T : FVec Ideal S32x440x67 .f32) : IVec S32x440 1 :=
  cmpf .ogt (subf (shapeCast S32x440 (extractStridedSlice S32x440x1 ![0, 0, 66] (Host.negf T) slices_S32x440x67_S32x440x1_0_0_66) shapeCasts_S32x440x1_S32x440)
      (shapeCast S32x440 (extractStridedSlice S32x440x1 ![0, 0, 65] (Host.negf T) slices_S32x440x67_S32x440x1_0_0_65) shapeCasts_S32x440x1_S32x440))
    (mulf (Host.reduce (FloatOps.maximumf (F := Ideal) (φ := .f32)) C (constant S_ .f32 0xFF800000#32) reducesTo_S32x440x440_S32x440_d2 h_S_)
      (broadcastInDim S32x440 ![] bcast_S_S32x440 (constant S_ .f32 0x34800000#32)))

/-- The 67th of a row's sorted keys. -/
theorem slice66 (v : FVec Ideal S32x440x67 .f32) (b : Fin 32) (i : Fin 440) :
    shapeCast S32x440 (extractStridedSlice S32x440x1 ![0, 0, 66] v slices_S32x440x67_S32x440x1_0_0_66) shapeCasts_S32x440x1_S32x440 (ix2 b i)
      = v (ix3 b i (66 : Fin 67)) := by
  pointwise []

/-- The 66th of a row's sorted keys. -/
theorem slice65 (v : FVec Ideal S32x440x67 .f32) (b : Fin 32) (i : Fin 440) :
    shapeCast S32x440 (extractStridedSlice S32x440x1 ![0, 0, 65] v slices_S32x440x67_S32x440x1_0_0_65) shapeCasts_S32x440x1_S32x440 (ix2 b i)
      = v (ix3 b i (65 : Fin 67)) := by
  pointwise []

/-- The greatest key of a row. -/
theorem greatest (C : FVec Ideal S32x440x440 .f32) (b : Fin 32) (i : Fin 440) :
    Host.reduce (FloatOps.maximumf (F := Ideal) (φ := .f32)) C (constant S_ .f32 0xFF800000#32) reducesTo_S32x440x440_S32x440_d2 h_S_ (ix2 b i)
      = Finset.fold max (Ideal.ofBits FTy.f32 0xFF800000#32) (fun j => C (ix3 b i j)) Finset.univ := by
  pointwise []

/-- The comparison at a row. -/
theorem apartArr_apply (C : FVec Ideal S32x440x440 .f32) (T : FVec Ideal S32x440x67 .f32) (b : Fin 32) (i : Fin 440) :
    apartArr C T (ix2 b i) = Ideal.cmp .ogt (-T (ix3 b i (66 : Fin 67)) - -T (ix3 b i (65 : Fin 67)))
      (Finset.fold max (Ideal.ofBits FTy.f32 0xFF800000#32) (fun j => C (ix3 b i j)) Finset.univ * Ideal.ofBits FTy.f32 0x34800000#32) := by
  have key : ∀ (u v w : FVec Ideal S32x440 .f32) (q : S32x440.Idx),
      cmpf .ogt (subf u v) (mulf w (broadcastInDim S32x440 ![] bcast_S_S32x440 (constant S_ .f32 0x34800000#32))) q
        = Ideal.cmp .ogt (u q - v q) (w q * Ideal.ofBits FTy.f32 0x34800000#32) := fun _ _ _ _ => rfl
  have neg : ∀ q, Host.negf T q = -T q := fun _ => rfl
  unfold apartArr
  rw [key, slice66, slice65, greatest, neg, neg]

/-- The comparison holds at a row exactly where its keys have the gap. -/
theorem apart_iff (C : FVec Ideal S32x440x440 .f32) (b : Fin 32) (i : Fin 440) :
    apartArr C (topVals (Host.negf C)) (ix2 b i) = 1#1 ↔ Knn.Gap fun j => C (ix3 b i j) := by
  rw [apartArr_apply, topVals_apply, topVals_apply]
  unfold Knn.Gap
  have h : ∀ u v : EReal, Ideal.cmp .ogt u v = 1#1 ↔ v < u := by
    intro u v
    by_cases q : v < u
    · simp [Ideal.cmp, q]
    · simp [Ideal.cmp, q]
  exact h _ _

variable (X : FVec Ideal S32x440x128 .f32) (W : FVec Ideal S4x128x32 .f32)

/-- Head 0's projection, as printed. -/
def projArr0 : FVec Ideal S32x440x32 .f32 :=
  Host.dotGeneral dot_S32x440x128_S128x32_S32x440x32_2_0_01_1_n_n none X (shapeCast S128x32 (extractStridedSlice S1x128x32 ![0, 0, 0] W slices_S4x128x32_S1x128x32_0_0_0) shapeCasts_S1x128x32_S128x32)

/-- Head 1's projection, as printed. -/
def projArr1 : FVec Ideal S32x440x32 .f32 :=
  Host.dotGeneral dot_S32x440x128_S128x32_S32x440x32_2_0_01_1_n_n none X (shapeCast S128x32 (extractStridedSlice S1x128x32 ![1, 0, 0] W slices_S4x128x32_S1x128x32_1_0_0) shapeCasts_S1x128x32_S128x32)

/-- Head 2's projection, as printed. -/
def projArr2 : FVec Ideal S32x440x32 .f32 :=
  Host.dotGeneral dot_S32x440x128_S128x32_S32x440x32_2_0_01_1_n_n none X (shapeCast S128x32 (extractStridedSlice S1x128x32 ![2, 0, 0] W slices_S4x128x32_S1x128x32_2_0_0) shapeCasts_S1x128x32_S128x32)

/-- Head 3's projection, as printed. -/
def projArr3 : FVec Ideal S32x440x32 .f32 :=
  Host.dotGeneral dot_S32x440x128_S128x32_S32x440x32_2_0_01_1_n_n none X (shapeCast S128x32 (extractStridedSlice S1x128x32 ![3, 0, 0] W slices_S4x128x32_S1x128x32_3_0_0) shapeCasts_S1x128x32_S128x32)

/-- One head's projected rows of one batch entry. -/
def headRows (b : Fin 32) (h : Fin 4) : Fin 440 → Fin 32 → EReal :=
  Knn.project (fun i d => X (ix3 b i d)) fun d k => W (ix3 h d k)

/-- Head 0's projection at an index. -/
theorem projArr0_apply (b : Fin 32) (i : Fin 440) (k : Fin 32) : projArr0 X W (ix3 b i k) = headRows X W b 0 i k := by
  pointwise [projArr0]
  rfl

/-- Head 1's projection at an index. -/
theorem projArr1_apply (b : Fin 32) (i : Fin 440) (k : Fin 32) : projArr1 X W (ix3 b i k) = headRows X W b 1 i k := by
  pointwise [projArr1]
  rfl

/-- Head 2's projection at an index. -/
theorem projArr2_apply (b : Fin 32) (i : Fin 440) (k : Fin 32) : projArr2 X W (ix3 b i k) = headRows X W b 2 i k := by
  pointwise [projArr2]
  rfl

/-- Head 3's projection at an index. -/
theorem projArr3_apply (b : Fin 32) (i : Fin 440) (k : Fin 32) : projArr3 X W (ix3 b i k) = headRows X W b 3 i k := by
  pointwise [projArr3]
  rfl

/-- A row's keys in one head. -/
def keys (b : Fin 32) (h : Fin 4) (i j : Fin 440) : EReal := max (Knn.sqDist (headRows X W b h) i j) Knn.eps

/-- The comparison of a head at a row, over its projection. -/
theorem apart_of (P : FVec Ideal S32x440x32 .f32) (h : Fin 4) (hP : ∀ b i k, P (ix3 b i k) = headRows X W b h i k) (b : Fin 32) (i : Fin 440) :
    apartArr (sqArr P) (topVals (Host.negf (sqArr P))) (ix2 b i) = 1#1 ↔ Knn.Gap (keys X W b h i) := by
  rw [apart_iff]
  have : (fun j => sqArr P (ix3 b i j)) = keys X W b h i := by
    funext j
    rw [sqArr_apply]
    exact congrArg (fun z => max (Knn.sqDist z i j) Knn.eps) (funext fun i => funext fun k => hP b i k)
  rw [this]

/-- The four heads' comparisons joined, as printed. -/
def joinArr (a0 a1 a2 a3 : IVec S32x440 1) : IVec S32x440 1 := andi (andi (andi a0 a1) a2) a3

/-- A row's comparisons over its pairs, as printed. -/
def pairArr (a : IVec S32x440 1) : IVec S32x440x440 1 :=
  andi (broadcastInDim S32x440x440 ![0, 1, 2] bcast_S32x440x1_S32x440x440_0_1_2 (broadcastInDim S32x440x1 ![0, 1] bcast_S32x440_S32x440x1_0_1 a))
    (broadcastInDim S32x440x440 ![0, 1, 2] bcast_S32x1x440_S32x440x440_0_1_2 (broadcastInDim S32x1x440 ![0, 2] bcast_S32x440_S32x1x440_0_2 a))

/-- The pairs' array at an index. -/
theorem pairArr_apply (a : IVec S32x440 1) (b : Fin 32) (i j : Fin 440) :
    pairArr a (ix3 b i j) = IntOp.andi (a (ix2 b i)) (a (ix2 b j)) := by
  pointwise [pairArr]

/-- Two bits' conjunction is one exactly when both are. -/
theorem andi_iff (u v : BitVec 1) : IntOp.andi u v = 1#1 ↔ u = 1#1 ∧ v = 1#1 := by
  revert u v; decide

/-- The selecting function is the pairs' array of the four heads' comparisons. -/
theorem fn_eq (a2 : FVec Ideal S128x3 .f32) (a3 : FVec Ideal S3 .f32) (a4 : FVec Ideal S128x64 .f32) (a5 : FVec Ideal S64 .f32)
    (a6 : FVec Ideal S64x1 .f32) (a7 : FVec Ideal S1 .f32) (a8 : FVec Ideal S_ .f32) :
    fn (F := Ideal) X W a2 a3 a4 a5 a6 a7 a8 = pairArr (joinArr
      (apartArr (sqArr (projArr0 X W)) (topVals (Host.negf (sqArr (projArr0 X W)))))
      (apartArr (sqArr (projArr1 X W)) (topVals (Host.negf (sqArr (projArr1 X W)))))
      (apartArr (sqArr (projArr2 X W)) (topVals (Host.negf (sqArr (projArr2 X W)))))
      (apartArr (sqArr (projArr3 X W)) (topVals (Host.negf (sqArr (projArr3 X W)))))) := by
  rfl

/-- At a selected entry both rows' keys have the gap in every head. -/
theorem gaps (a2 : FVec Ideal S128x3 .f32) (a3 : FVec Ideal S3 .f32) (a4 : FVec Ideal S128x64 .f32) (a5 : FVec Ideal S64 .f32)
    (a6 : FVec Ideal S64x1 .f32) (a7 : FVec Ideal S1 .f32) (a8 : FVec Ideal S_ .f32) (b : Fin 32) (i j : Fin 440)
    (hs : fn (F := Ideal) X W a2 a3 a4 a5 a6 a7 a8 (ix3 b i j) = 1#1) (h : Fin 4) :
    Knn.Gap (keys X W b h i) ∧ Knn.Gap (keys X W b h j) := by
  rw [fn_eq, pairArr_apply, andi_iff] at hs
  have row : ∀ i, joinArr
      (apartArr (sqArr (projArr0 X W)) (topVals (Host.negf (sqArr (projArr0 X W)))))
      (apartArr (sqArr (projArr1 X W)) (topVals (Host.negf (sqArr (projArr1 X W)))))
      (apartArr (sqArr (projArr2 X W)) (topVals (Host.negf (sqArr (projArr2 X W)))))
      (apartArr (sqArr (projArr3 X W)) (topVals (Host.negf (sqArr (projArr3 X W))))) (ix2 b i) = 1#1 → Knn.Gap (keys X W b h i) := by
    intro i hi
    have hi' : IntOp.andi (IntOp.andi (IntOp.andi
      (apartArr (sqArr (projArr0 X W)) (topVals (Host.negf (sqArr (projArr0 X W)))) (ix2 b i))
      (apartArr (sqArr (projArr1 X W)) (topVals (Host.negf (sqArr (projArr1 X W)))) (ix2 b i)))
      (apartArr (sqArr (projArr2 X W)) (topVals (Host.negf (sqArr (projArr2 X W)))) (ix2 b i)))
      (apartArr (sqArr (projArr3 X W)) (topVals (Host.negf (sqArr (projArr3 X W)))) (ix2 b i)) = 1#1 := hi
    rw [andi_iff, andi_iff, andi_iff, apart_of X W _ 0 (projArr0_apply X W), apart_of X W _ 1 (projArr1_apply X W),
      apart_of X W _ 2 (projArr2_apply X W), apart_of X W _ 3 (projArr3_apply X W)] at hi'
    obtain ⟨⟨⟨h0, h1⟩, h2⟩, h3⟩ := hi'
    match h with
    | ⟨0, _⟩ => exact h0
    | ⟨1, _⟩ => exact h1
    | ⟨2, _⟩ => exact h2
    | ⟨3, _⟩ => exact h3
  exact ⟨row i hs.1, row j hs.2⟩

end Cert.On_resolved.Read

end
-- ==== Proof.Nearest.lean ====
/- The neighbours: a threshold found by bisection admits exactly the 66 nearest where the gap is resolved, so the two
   programs' adjacency terms agree. -/
module

public import proofs.«01_k».proof.Proof.Scale
public import proofs.«01_k».proof.Proof.Bisect
public import proofs.«01_k».proof.Proof.RefHead
public import proofs.«01_k».proof.Proof.MaskValue

@[expose] public section

noncomputable section

attribute [local irreducible] Idealize.ShloMosaic.sortedFrom

namespace Knn

open Idealize.ShloMosaic

variable {q : ℕ}

/-- A squared distance is symmetric. -/
theorem sqDist_comm (z : Fin 440 → Fin q → EReal) (i j : Fin 440) : sqDist z i j = sqDist z j i := by
  unfold sqDist
  rw [add_comm]
  congr 2
  exact Finset.sum_congr rfl fun k _ => mul_comm _ _

/-- The descending comparison, read. -/
theorem cmp_gt (u v : EReal) : (FloatOps.cmpfTotal (F := Ideal) (φ := .f32) .gt u v == 1#1) = true ↔ v < u := by
  show ((Ideal.cmp .ogt u v) == 1#1) = true ↔ v < u
  by_cases h : v < u
  · simp [Ideal.cmp, h]
  · simp [Ideal.cmp, h]

/-- Keys in the same order have the same descending order. -/
theorem descending_congr (d d' : Fin 440 → EReal) (h : ∀ k k', d k < d k' ↔ d' k < d' k') : descending d = descending d' := by
  rw [descending_eq, descending_eq]
  refine sortedFrom_congr _ _ fun k k' _ => ?_
  rw [Bool.eq_iff_iff, cmp_gt, cmp_gt]
  exact h k' k

/-- A descending order is one to one and onto. -/
theorem descending_bijective (d : Fin 440 → EReal) : Function.Bijective (descending d) := by
  rw [descending_eq]
  exact ⟨sortedFrom_injective _, sortedFrom_surjective _⟩

/-- A descending order does not rise. -/
theorem descending_anti (d : Fin 440 → EReal) (a b : Fin 440) (h : a ≤ b) : d (descending d b) ≤ d (descending d a) := by
  rcases h.lt_or_eq with h | h
  · have key := sortedFrom_noInversion (fun k k' => (FloatOps.cmpfTotal (F := Ideal) (φ := .f32) .gt (d k) (d k')) == 1#1)
      (fun k k' => (FloatOps.cmpfTotal (F := Ideal) (φ := .f32) .gt (d k) (d k')) == 1#1) ?_ (fun _ _ h => h) ?_ a b h
    · rw [← descending_eq, Bool.eq_false_iff, ne_eq, cmp_gt] at key
      exact not_lt.1 key
    · intro k k' hk
      rw [Bool.eq_false_iff, ne_eq, cmp_gt]
      rw [cmp_gt] at hk
      exact not_lt.2 hk.le
    · intro k k' k'' h1 h2
      rw [Bool.eq_false_iff, ne_eq, cmp_gt] at h1 h2 ⊢
      exact not_lt.2 ((not_lt.1 h1).trans (not_lt.1 h2))
  · rw [h]

/-- The order of the negated distances is the order of the negated kept squared distances. -/
theorem order_eq (z : Fin 440 → Fin q → EReal) (i : Fin 440) :
    (descending fun k => -dist z i k) = descending fun k => -max (sqDist z i k) eps := by
  refine descending_congr _ _ fun k k' => ?_
  rw [EReal.neg_lt_neg_iff, EReal.neg_lt_neg_iff]
  exact sqrt_lt_sqrt (kept_nonneg _) (kept_nonneg _)

/-- Where the gap is resolved the bisected threshold admits exactly the row's first 66 positions. -/
theorem within_iff (z : Fin 440 → Fin q → EReal) (i : Fin 440) (hg : Gap fun j => max (sqDist z i j) eps) (j : Fin 440) :
    sqDist z i j ≤ threshold (fun j => sqDist z i j) ((66 : ℝ) : EReal) 22
      ↔ ∃ k : Fin 440, k.val < 66 ∧ descending (fun k => -dist z i k) k = j := by
  have h := le_threshold_iff (n := 440) (K := 66) (by decide) (by decide) (fun j => sqDist z i j) epsReal epsReal_pos
    (descending fun k => -dist z i k) (descending_bijective _) 22 ?_ ?_ j
  · exact_mod_cast h
  · intro a b hab
    rw [← eps_eq, order_eq]
    exact EReal.neg_le_neg_iff.1 (descending_anti (fun k => -max (sqDist z i k) eps) a b hab)
  · rw [← eps_eq, order_eq]
    unfold Gap at hg
    rw [step_eq, neg_neg, neg_neg] at hg
    have hs : Finset.fold max (Ideal.ofBits .f32 0xFF800000#32) (fun j => max (sqDist z i j) eps) Finset.univ
        = Finset.univ.sup fun j => max (sqDist z i j) eps := by
      have hb : Ideal.ofBits .f32 0xFF800000#32 = (⊥ : EReal) := by simp [Ideal.ofBits, Ideal.ieee]
      rw [hb]; rfl
    rw [hs] at hg
    exact hg

/-- The greater of two indicators. -/
theorem max_ind (p r : Prop) : max (ind p) (ind r) = ind (p ∨ r) := by
  have h01 : (0 : EReal) ≤ 1 := zero_le_one
  by_cases hp : p
  · by_cases hr : r
    · rw [ind_pos hp, ind_pos hr, ind_pos (Or.inl hp), max_self]
    · rw [ind_pos hp, ind_neg hr, ind_pos (Or.inl hp), max_eq_left h01]
  · by_cases hr : r
    · rw [ind_neg hp, ind_pos hr, ind_pos (Or.inr hr), max_eq_right h01]
    · rw [ind_neg hp, ind_neg hr, ind_neg (by tauto), max_self]

/-- A pair is near in the kernel exactly where either row is among the other's first 66. -/
theorem near_eq (z : Fin 440 → Fin q → EReal) (i j : Fin 440) (hi : Gap fun k => max (sqDist z i k) eps)
    (hj : Gap fun k => max (sqDist z j k) eps) :
    near z (fun i => threshold (fun j => sqDist z i j) ((66 : ℝ) : EReal) 22) i j
      = max (amongFirst 66 (descending fun k => -dist z i k) j) (amongFirst 66 (descending fun k => -dist z j k) i) := by
  unfold amongFirst
  rw [max_ind, ← within_iff z i hi j, ← within_iff z j hj i, sqDist_comm z j i]
  unfold near ind
  by_cases h : sqDist z i j ≤ threshold (fun j => sqDist z i j) ((66 : ℝ) : EReal) 22
      ∨ sqDist z i j ≤ threshold (fun k => sqDist z j k) ((66 : ℝ) : EReal) 22
  · rw [if_pos h, if_pos (le_max_iff.2 h)]
  · rw [if_neg h, if_neg fun q => h (le_max_iff.1 q)]

/-- The two programs' terms of a head agree where both rows' gaps are resolved. -/
theorem headTerm_eq (z : Fin 440 → Fin q → EReal) (s : EReal) (i j : Fin 440) (hi : Gap fun k => max (sqDist z i k) eps)
    (hj : Gap fun k => max (sqDist z j k) eps) :
    headTerm z (fun i => threshold (fun j => sqDist z i j) ((66 : ℝ) : EReal) 22) s i j
      = headTermRef (dist z) (Ideal.div s entries) i j := by
  unfold headTerm headTermRef
  rw [near_eq z i j hi hj, exponent_eq]
  rfl

/-- A head's term lies in [0, 1]. -/
theorem headTerm_bounds (z : Fin 440 → Fin q → EReal) (t : Fin 440 → EReal) (s : EReal) (i j : Fin 440) :
    0 ≤ headTerm z t s i j ∧ headTerm z t s i j ≤ 1 := by
  obtain ⟨h0, h1⟩ := exp_bounds (exponent_nonpos (sqDist z i j) s)
  unfold headTerm near
  split
  · rw [mul_one]; exact ⟨h0, h1⟩
  · rw [mul_zero]; exact ⟨le_refl _, zero_le_one⟩

/-- The adjacency is a nonnegative real. -/
theorem meanOfFour_bounds (u : Fin 4 → EReal) (h : ∀ k, 0 ≤ u k ∧ u k ≤ 1) : 0 ≤ meanOfFour u ∧ meanOfFour u ≠ ⊤ := by
  have hr : ∀ k, ∃ r : ℝ, 0 ≤ r ∧ u k = (r : EReal) := by
    intro k
    obtain ⟨h0, h1⟩ := h k
    generalize u k = x at h0 h1 ⊢
    induction x using EReal.rec with
    | bot => simp at h0
    | top => exact absurd (top_le_iff.1 h1) (EReal.coe_ne_top 1)
    | coe r => exact ⟨r, by exact_mod_cast h0, rfl⟩
  obtain ⟨r0, p0, e0⟩ := hr 0
  obtain ⟨r1, p1, e1⟩ := hr 1
  obtain ⟨r2, p2, e2⟩ := hr 2
  obtain ⟨r3, p3, e3⟩ := hr 3
  have hm : meanOfFour u = (((r0 + r1 + r2 + r3) * 4⁻¹ : ℝ) : EReal) := by
    unfold meanOfFour
    rw [four_eq, div_of_ne _ (by exact_mod_cast (by norm_num : (4 : ℝ) ≠ 0)), e0, e1, e2, e3]
    rw [← EReal.coe_add, ← EReal.coe_add, ← EReal.coe_add, ← EReal.coe_inv, ← EReal.coe_mul]
  rw [hm]
  refine ⟨?_, EReal.coe_ne_top _⟩
  have : 0 ≤ (r0 + r1 + r2 + r3) * 4⁻¹ := by positivity
  exact_mod_cast this

end Knn

end
-- ==== Proof.RefRouter.lean ====
/- The reference's router at an index: the order of a row's three probabilities, the masked sorted probabilities and
   their return to the experts' places. -/
module

public import proofs.«01_k».proof.Proof.RefNear

@[expose] public section

set_option maxRecDepth 16384

noncomputable section

attribute [local irreducible] Idealize.ShloMosaic.sortedFrom

namespace Knn

open Idealize.ShloMosaic

/-- The positions of three keys, the least first, equal keys in position order. -/
def ascending (d : Fin 3 → EReal) : Fin 3 → Fin 3 :=
  sortedFrom fun k k' => open Classical in decide (d k < d k')

/-- The positions of three small naturals, the least first. -/
def ascendingNat (d : Fin 3 → Fin 3) : Fin 3 → Fin 3 :=
  sortedFrom fun k k' => decide (d k < d k')

/-- The sum of a row's entries up to a place. -/
def running (x : Fin 3 → EReal) : Fin 3 → EReal
  | 0 => x 0
  | 1 => x 0 + x 1
  | 2 => x 0 + x 1 + x 2

end Knn

namespace Cert.ReferenceIdeal.Read

open Idealize.ShloMosaic
open Cert.ReferenceIdeal Cert.ReferenceIdeal.Gen

/-- An index of a row's fiber. -/
theorem along3 (b : Fin 32) (i : Fin 440) (k : Fin 3) (hd : 2 < S32x440x3.rank) (l : Fin 3) :
    (ix3 b i k : S32x440x3.Idx).along ⟨2, hd⟩ l = ix3 b i l := by
  funext a
  match a with
  | ⟨0, _⟩ => rfl
  | ⟨1, _⟩ => rfl
  | ⟨2, _⟩ => rfl

/-- The second result of a sort of pairs along the last axis, the payload the positions. -/
theorem sort2_iota {α : Type} (cmp : α × BitVec 32 → α × BitVec 32 → BitVec 1) (x : S32x440x3.Idx → α) (b : Fin 32) (i : Fin 440) (k : Fin 3) :
    (Host.sort2 S32x440x3 2 cmp x (iotaInDim S32x440x3 32 2)).2 (ix3 b i k)
      = BitVec.ofNat 32 (sortedFrom (fun l l' : Fin 3 => cmp (x (ix3 b i l), BitVec.ofNat 32 l.val) (x (ix3 b i l'), BitVec.ofNat 32 l'.val) == 1#1) k).val := by
  have hd : 2 < S32x440x3.rank := by decide
  unfold Host.sort2
  rw [dif_pos hd]
  dsimp only
  refine (congrArg (iotaInDim S32x440x3 32 2) (along3 b i k hd _)).trans ?_
  have hB : (fun l l' : Fin 3 => cmp (x ((ix3 b i k : S32x440x3.Idx).along ⟨2, hd⟩ l), iotaInDim S32x440x3 32 2 ((ix3 b i k : S32x440x3.Idx).along ⟨2, hd⟩ l))
        (x ((ix3 b i k : S32x440x3.Idx).along ⟨2, hd⟩ l'), iotaInDim S32x440x3 32 2 ((ix3 b i k : S32x440x3.Idx).along ⟨2, hd⟩ l')) == 1#1)
      = fun l l' : Fin 3 => cmp (x (ix3 b i l), BitVec.ofNat 32 l.val) (x (ix3 b i l'), BitVec.ofNat 32 l'.val) == 1#1 := by
    funext l l'
    exact congrArg₂ (fun u v => cmp (x u, iotaInDim S32x440x3 32 2 u) (x v, iotaInDim S32x440x3 32 2 v) == 1#1) (along3 b i k hd l) (along3 b i k hd l')
  exact congrArg (fun B : Fin 3 → Fin 3 → Bool => BitVec.ofNat 32 (sortedFrom B k).val) hB

/-- A comparison of words of small naturals. -/
theorem word_lt (u v : Fin 3) : (IntOp.cmpi .slt (BitVec.ofNat 32 u.val) (BitVec.ofNat 32 v.val) == 1#1) = decide (u < v) := by
  revert u v; decide

/-- The comparator of keys, read. -/
theorem comparator_lt (u v : EReal) (s t : BitVec 32) :
    (comparator_f32_i32_d2 (F := Ideal) (u, s) (v, t) == 1#1) = open Classical in decide (u < v) := by
  classical
  have h0 : Ideal.ofBits FTy.f32 0x00000000#32 = 0 := by simp [Ideal.ofBits, Ideal.ieee]
  have hz : ∀ u : EReal, Scalar.select (Ideal.cmp .oeq u 0) (0 : EReal) u = u := by
    intro u
    by_cases hu : u = 0
    · subst hu; simp [Ideal.cmp, Scalar.select]
    · simp [Ideal.cmp, Scalar.select, hu]
  have hn : ∀ (u z : EReal), Scalar.select (Ideal.cmp .une u u) z u = u := by
    intro u z; simp [Ideal.cmp, Scalar.select]
  have key : comparator_f32_i32_d2 (F := Ideal) (u, s) (v, t) = Ideal.cmp .olt u v := by
    show Ideal.cmp .olt
      (Scalar.select (Ideal.cmp .une u u) _ (Scalar.select (Ideal.cmp .oeq u (Ideal.ofBits FTy.f32 0x00000000#32)) (Ideal.ofBits FTy.f32 0x00000000#32) u))
      (Scalar.select (Ideal.cmp .une v v) _ (Scalar.select (Ideal.cmp .oeq v (Ideal.ofBits FTy.f32 0x00000000#32)) (Ideal.ofBits FTy.f32 0x00000000#32) v)) = _
    rw [h0, hz, hz, hn, hn]
  rw [key]
  by_cases h : u < v
  · simp [Ideal.cmp, h]
  · simp [Ideal.cmp, h]

/-- The gather of a row's entries by an array of positions, read at an index. -/
theorem take_gather {α : Type} (x : S32x440x3.Idx → α) (w : IVec S32x440x3x1 32) (b : Fin 32) (i : Fin 440) (k s : Fin 3)
    (hw : w (ix4 b i k 0) = BitVec.ofNat 32 s.val) :
    Host.gather gather_S32x440x3_S32x440x3x1_S32x440x3_n_2_01_01_2_3_111 x w (ix3 b i k) = x (ix3 b i s) := by
  unfold Host.gather
  congr 1; funext a; apply Fin.ext
  match a with
  | ⟨0, _⟩ =>
    show GatherDims.start _ (ix3 b i k) w 0 + GatherDims.batchCoord _ (ix3 b i k) 0 + GatherDims.offCoord _ (ix3 b i k) 0 = b.val
    have e1 : GatherDims.start gather_S32x440x3_S32x440x3x1_S32x440x3_n_2_01_01_2_3_111 (ix3 b i k) w 0 = 0 := rfl
    have e2 : GatherDims.batchCoord gather_S32x440x3_S32x440x3x1_S32x440x3_n_2_01_01_2_3_111 (ix3 b i k) 0 = b.val := rfl
    have e3 : GatherDims.offCoord gather_S32x440x3_S32x440x3x1_S32x440x3_n_2_01_01_2_3_111 (ix3 b i k) 0 = 0 := rfl
    omega
  | ⟨1, _⟩ =>
    show GatherDims.start _ (ix3 b i k) w 1 + GatherDims.batchCoord _ (ix3 b i k) 1 + GatherDims.offCoord _ (ix3 b i k) 1 = i.val
    have e1 : GatherDims.start gather_S32x440x3_S32x440x3x1_S32x440x3_n_2_01_01_2_3_111 (ix3 b i k) w 1 = 0 := rfl
    have e2 : GatherDims.batchCoord gather_S32x440x3_S32x440x3x1_S32x440x3_n_2_01_01_2_3_111 (ix3 b i k) 1 = i.val := rfl
    have e3 : GatherDims.offCoord gather_S32x440x3_S32x440x3x1_S32x440x3_n_2_01_01_2_3_111 (ix3 b i k) 1 = 0 := rfl
    omega
  | ⟨2, _⟩ =>
    show GatherDims.start _ (ix3 b i k) w 2 + GatherDims.batchCoord _ (ix3 b i k) 2 + GatherDims.offCoord _ (ix3 b i k) 2 = s.val
    have hsi : GatherDims.siIdx gather_S32x440x3_S32x440x3x1_S32x440x3_n_2_01_01_2_3_111 (ix3 b i k) ⟨0, by decide⟩ = (ix4 b i k 0 : S32x440x3x1.Idx) := by
      funext c; apply Fin.ext
      match c with
      | ⟨0, _⟩ => rfl
      | ⟨1, _⟩ => rfl
      | ⟨2, _⟩ => rfl
      | ⟨3, _⟩ => rfl
    have e1 : GatherDims.start gather_S32x440x3_S32x440x3x1_S32x440x3_n_2_01_01_2_3_111 (ix3 b i k) w 2
        = min (w (GatherDims.siIdx gather_S32x440x3_S32x440x3x1_S32x440x3_n_2_01_01_2_3_111 (ix3 b i k) ⟨0, by decide⟩)).toInt.toNat 2 := rfl
    have e2 : GatherDims.batchCoord gather_S32x440x3_S32x440x3x1_S32x440x3_n_2_01_01_2_3_111 (ix3 b i k) 2 = 0 := rfl
    have e3 : GatherDims.offCoord gather_S32x440x3_S32x440x3x1_S32x440x3_n_2_01_01_2_3_111 (ix3 b i k) 2 = 0 := rfl
    have e4 : ∀ s : Fin 3, min (BitVec.ofNat 32 s.val).toInt.toNat 2 = s.val := by decide
    rw [hsi, hw, e4] at e1
    omega

/-- `take_along_axis` on the last axis, as printed: the positions' signs read, the gather, and a filler out of range. -/
def takeArr (x : FVec Ideal S32x440x3 .f32) (w : IVec S32x440x3 32) : FVec Ideal S32x440x3 .f32 :=
  let n : IVec S32x440x3x1 32 := shapeCast _ (select (cmpi .slt w (broadcastInDim S32x440x3 ![] bcast_S_S32x440x3 (constantI S_ 32 0#32))) (addi w (broadcastInDim S32x440x3 ![] bcast_S_S32x440x3 (constantI S_ 32 3#32))) w) shapeCasts_S32x440x3_S32x440x3x1
  select (Host.reduce IntOp.andi (andi (cmpi .sge n (broadcastInDim S32x440x3x1 ![] bcast_S_S32x440x3x1 (constantI S_ 32 0#32))) (cmpi .sle n (broadcastInDim S32x440x3x1 ![0, 1, 2, 3] bcast_S1x1x1x1_S32x440x3x1_0_1_2_3 (broadcastInDim S1x1x1x1 ![3] bcast_S1_S1x1x1x1_3 (constantI S1 32 2#32))))) (constantI S_ 1 1#1) reducesTo_S32x440x3x1_S32x440x3_d3 h_S_) (Host.gather gather_S32x440x3_S32x440x3x1_S32x440x3_n_2_01_01_2_3_111 x n) (broadcastInDim S32x440x3 ![] bcast_S_S32x440x3 (constant S_ .f32 0x7FC00000#32))

/-- The printed `take_along_axis` at an index whose position word is in range. -/
theorem takeArr_apply (x : FVec Ideal S32x440x3 .f32) (w : IVec S32x440x3 32) (b : Fin 32) (i : Fin 440) (k s : Fin 3)
    (hw : w (ix3 b i k) = BitVec.ofNat 32 s.val) : takeArr x w (ix3 b i k) = x (ix3 b i s) := by
  have hn : (shapeCast S32x440x3x1 (select (cmpi .slt w (broadcastInDim S32x440x3 ![] bcast_S_S32x440x3 (constantI S_ 32 0#32))) (addi w (broadcastInDim S32x440x3 ![] bcast_S_S32x440x3 (constantI S_ 32 3#32))) w) shapeCasts_S32x440x3_S32x440x3x1 : IVec S32x440x3x1 32) (ix4 b i k 0) = BitVec.ofNat 32 s.val := by
    pointwise []
    rw [hw]
    clear hw
    revert s; decide
  unfold takeArr
  dsimp only
  generalize (shapeCast S32x440x3x1 (select (cmpi .slt w (broadcastInDim S32x440x3 ![] bcast_S_S32x440x3 (constantI S_ 32 0#32))) (addi w (broadcastInDim S32x440x3 ![] bcast_S_S32x440x3 (constantI S_ 32 3#32))) w) shapeCasts_S32x440x3_S32x440x3x1 : IVec S32x440x3x1 32) = n at hn ⊢
  have hr : (Host.reduce IntOp.andi (andi (cmpi .sge n (broadcastInDim S32x440x3x1 ![] bcast_S_S32x440x3x1 (constantI S_ 32 0#32))) (cmpi .sle n (broadcastInDim S32x440x3x1 ![0, 1, 2, 3] bcast_S1x1x1x1_S32x440x3x1_0_1_2_3 (broadcastInDim S1x1x1x1 ![3] bcast_S1_S1x1x1x1_3 (constantI S1 32 2#32))))) (constantI S_ 1 1#1) reducesTo_S32x440x3x1_S32x440x3_d3 h_S_ : IVec S32x440x3 1) (ix3 b i k) = 1#1 := by
    pointwise []
    show IntOp.andi (IntOp.andi (IntOp.cmpi CmpIPredicate.sge (n (ix4 b i k 0)) 0#32) (IntOp.cmpi CmpIPredicate.sle (n (ix4 b i k 0)) 2#32)) (1#1) = 1#1
    rw [hn]
    clear hw hn
    revert s; decide
  show Scalar.select _ (Host.gather gather_S32x440x3_S32x440x3x1_S32x440x3_n_2_01_01_2_3_111 x n (ix3 b i k)) _ = _
  rw [hr, take_gather x n b i k s hn]
  rfl

/-- The running sum of a row, as printed. -/
def cumArr (x : FVec Ideal S32x440x3 .f32) : FVec Ideal S32x440x3 .f32 :=
  Host.reduceWindowAdd ![1, 1, 3] ![1, 1, 1] ![0, 0, 2] ![0, 0, 0] x (broadcastInDim S_ ![] bcast_S_S_ (constant S_ .f32 0x00000000#32)) reduceWindows_S32x440x3_S32x440x3_w1s1p0_0_w1s1p0_0_w3s1p2_0 h_S_

/-- A window of three, padded two low, summed: the row's entries up to the place. -/
theorem window3 (x : S32x440x3.Idx → EReal) (init : S_.Idx → EReal)
    (h : S32x440x3.ReduceWindows (![1, 1, 3] : Fin 3 → Nat) ![1, 1, 1] ![0, 0, 2] ![0, 0, 0] S32x440x3) (hu : 0 < S_.numel)
    (hv : init (Shape.Idx.first hu) = 0) (b : Fin 32) (i : Fin 440) (k : Fin 3) :
    Host.reduceWindow (· + ·) ![1, 1, 3] ![1, 1, 1] ![0, 0, 2] ![0, 0, 0] x init h hu (ix3 b i k)
      = Knn.running (fun l => x (ix3 b i l)) k := by
  have hW : ∀ n : Fin (⟨3, ![1, 1, 3]⟩ : Shape).numel, ((⟨3, ![1, 1, 3]⟩ : Shape).rowMajor.symm n 0).val = 0
      ∧ ((⟨3, ![1, 1, 3]⟩ : Shape).rowMajor.symm n 1).val = 0 ∧ ((⟨3, ![1, 1, 3]⟩ : Shape).rowMajor.symm n 2).val = n.val := by
    decide
  unfold Host.reduceWindow
  dsimp only
  rw [hv]
  have key : ∀ F G : Fin (⟨3, ![1, 1, 3]⟩ : Shape).numel → EReal, (∀ n, F n = G n) →
      (List.finRange (⟨3, ![1, 1, 3]⟩ : Shape).numel).foldl (fun r n => r + F n) 0
        = (List.finRange (⟨3, ![1, 1, 3]⟩ : Shape).numel).foldl (fun r n => r + G n) 0 :=
    fun F G h => by rw [funext h]
  refine (key _ (fun n => if hin : 2 ≤ k.val + n.val ∧ k.val + n.val - 2 < 3
    then x (ix3 b i ⟨k.val + n.val - 2, hin.2⟩) else 0) ?_).trans ?_
  · intro n
    obtain ⟨w0, w1, w2⟩ := hW n
    have hb := b.isLt
    have hi := i.isLt
    by_cases q : 2 ≤ k.val + n.val ∧ k.val + n.val - 2 < 3
    · refine Eq.trans (dif_pos ?_) ?_
      · intro a
        match a with
        | ⟨0, _⟩ => show 0 ≤ b.val * 1 + ((⟨3, ![1, 1, 3]⟩ : Shape).rowMajor.symm n 0).val ∧ b.val * 1 + ((⟨3, ![1, 1, 3]⟩ : Shape).rowMajor.symm n 0).val - 0 < 32; omega
        | ⟨1, _⟩ => show 0 ≤ i.val * 1 + ((⟨3, ![1, 1, 3]⟩ : Shape).rowMajor.symm n 1).val ∧ i.val * 1 + ((⟨3, ![1, 1, 3]⟩ : Shape).rowMajor.symm n 1).val - 0 < 440; omega
        | ⟨2, _⟩ => show 2 ≤ k.val * 1 + ((⟨3, ![1, 1, 3]⟩ : Shape).rowMajor.symm n 2).val ∧ k.val * 1 + ((⟨3, ![1, 1, 3]⟩ : Shape).rowMajor.symm n 2).val - 2 < 3; omega
      rw [dif_pos q]
      refine congrArg x ?_
      funext a; apply Fin.ext
      match a with
      | ⟨0, _⟩ => show b.val * 1 + ((⟨3, ![1, 1, 3]⟩ : Shape).rowMajor.symm n 0).val - 0 = b.val; omega
      | ⟨1, _⟩ => show i.val * 1 + ((⟨3, ![1, 1, 3]⟩ : Shape).rowMajor.symm n 1).val - 0 = i.val; omega
      | ⟨2, _⟩ => show k.val * 1 + ((⟨3, ![1, 1, 3]⟩ : Shape).rowMajor.symm n 2).val - 2 = k.val + n.val - 2; omega
    · rw [dif_neg q]
      refine dif_neg ?_
      intro q'
      have := q' 2
      change 2 ≤ k.val * 1 + ((⟨3, ![1, 1, 3]⟩ : Shape).rowMajor.symm n 2).val ∧ k.val * 1 + ((⟨3, ![1, 1, 3]⟩ : Shape).rowMajor.symm n 2).val - 2 < 3 at this
      omega
  clear key hW
  match k with
  | ⟨0, _⟩ => exact (by show (0 : EReal) + 0 + 0 + x (ix3 b i 0) = x (ix3 b i 0); simp)
  | ⟨1, _⟩ => exact (by show (0 : EReal) + 0 + x (ix3 b i 0) + x (ix3 b i 1) = x (ix3 b i 0) + x (ix3 b i 1); simp)
  | ⟨2, _⟩ => exact (by show (0 : EReal) + x (ix3 b i 0) + x (ix3 b i 1) + x (ix3 b i 2) = x (ix3 b i 0) + x (ix3 b i 1) + x (ix3 b i 2); simp)

/-- The running sum at an index: the row's entries up to it. -/
theorem cumArr_apply (x : FVec Ideal S32x440x3 .f32) (b : Fin 32) (i : Fin 440) (k : Fin 3) :
    cumArr x (ix3 b i k) = Knn.running (fun l => x (ix3 b i l)) k := by
  refine window3 x (fun _ => Ideal.ofBits FTy.f32 0x00000000#32) reduceWindows_S32x440x3_S32x440x3_w1s1p0_0_w1s1p0_0_w3s1p2_0 (by decide) ?_ b i k
  simp [Ideal.ofBits, Ideal.ieee]

end Cert.ReferenceIdeal.Read

end
-- ==== Proof.RefWeights.lean ====
/- The reference's router weights at an index: the softmax, the masked sorted probabilities returned to the experts'
   places, and their normalisation. -/
module

public import proofs.«01_k».proof.Proof.RefRouter

@[expose] public section

set_option maxRecDepth 16384

noncomputable section

attribute [local irreducible] Idealize.ShloMosaic.sortedFrom Knn.ascending Knn.ascendingNat

namespace Knn

open Idealize.ShloMosaic

/-- The sorted probabilities of which the mass before stays below the mass kept, the others zero. -/
def keptSorted (s : Fin 3 → EReal) (r : Fin 3) : EReal := s r * ind (running s r - s r < mass)

/-- An expert's kept probability as the reference computes it: sort, mask, and return to the expert's place. -/
def keptRef (p : Fin 3 → EReal) (k : Fin 3) : EReal :=
  keptSorted (fun r => p (ascending (fun l => -p l) r)) (ascendingNat (ascending fun l => -p l) k)

end Knn

namespace Cert.ReferenceIdeal.Read

open Idealize.ShloMosaic
open Cert.ReferenceIdeal Cert.ReferenceIdeal.Gen Cert.ReferenceIdeal.Value

variable (V0 : Valuation τ sig (Elt Ideal))

/-- A row's three logits. -/
def logits (b : Fin 32) (i : Fin 440) (k : Fin 3) : EReal :=
  Knn.project (fun i d => V0 (Proc.devRef .tc main_arg0) (ix3 b i d)) (fun d k => V0 (Proc.devRef .tc main_arg2) (ix2 d k)) i k
    + V0 (Proc.devRef .tc main_arg3) (ix1 k)

/-- The logits at an index. -/
theorem logits_apply (b : Fin 32) (i : Fin 440) (k : Fin 3) : res_main_v143 V0 (ix3 b i k) = logits V0 b i k := by
  pointwise [res_main_v143]
  rfl

/-- The shifted exponentials, as printed, over any array of logits. -/
def expArr (L : FVec Ideal S32x440x3 .f32) : FVec Ideal S32x440x3 .f32 :=
  Host.exp (subf L (broadcastInDim S32x440x3 ![0, 1, 2] bcast_S32x440x1_S32x440x3_0_1_2 (broadcastInDim S32x440x1 ![0, 1] bcast_S32x440_S32x440x1_0_1 (maximumf (broadcastInDim S32x440 ![] bcast_S_S32x440 (constant S_ .f32 0xFF800000#32)) (Host.reduce (FloatOps.maximumf (F := Ideal) (φ := .f32)) L (constant S_ .f32 0xFF800000#32) reducesTo_S32x440x3_S32x440_d2 h_S_)))))

/-- The shifted exponentials at an index. -/
theorem expArr_apply (L : FVec Ideal S32x440x3 .f32) (b : Fin 32) (i : Fin 440) (k : Fin 3) :
    expArr L (ix3 b i k) = Ideal.exp (L (ix3 b i k) - Knn.largest fun k => L (ix3 b i k)) := by
  pointwise [expArr]
  rfl

/-- An array over its row sums, as printed. -/
def ratioArr (E : FVec Ideal S32x440x3 .f32) : FVec Ideal S32x440x3 .f32 :=
  Host.divf E (broadcastInDim S32x440x3 ![0, 1, 2] bcast_S32x440x1_S32x440x3_0_1_2 (broadcastInDim S32x440x1 ![0, 1] bcast_S32x440_S32x440x1_0_1 (Host.reduceAdd E (constant S_ .f32 0x00000000#32) reducesTo_S32x440x3_S32x440_d2 h_S_)))

/-- An array over its row sums, at an index. -/
theorem ratioArr_apply (E : FVec Ideal S32x440x3 .f32) (b : Fin 32) (i : Fin 440) (k : Fin 3) :
    ratioArr E (ix3 b i k) = Ideal.div (E (ix3 b i k)) (∑ k', E (ix3 b i k')) := by
  pointwise [ratioArr]

/-- The probabilities at an index: the softmax of the logits. -/
theorem softmax_apply (b : Fin 32) (i : Fin 440) (k : Fin 3) :
    res_main_v154 V0 (ix3 b i k) = Knn.softmax (logits V0 b i) k := by
  show ratioArr (expArr (res_main_v143 V0)) (ix3 b i k) = _
  rw [ratioArr_apply]
  simp only [expArr_apply, logits_apply]
  rfl

/-- The masked sorted probabilities, as printed. -/
def maskedArr (s : FVec Ideal S32x440x3 .f32) : FVec Ideal S32x440x3 .f32 :=
  mulf s (uitofp .f32 (cmpf .olt (subf (cumArr s) s) (broadcastInDim S32x440x3 ![] bcast_S_S32x440x3 (constant S_ .f32 0x3F59999A#32))))

/-- The masked sorted probabilities at an index. -/
theorem maskedArr_apply (s : FVec Ideal S32x440x3 .f32) (b : Fin 32) (i : Fin 440) (r : Fin 3) :
    maskedArr s (ix3 b i r) = Knn.keptSorted (fun r => s (ix3 b i r)) r := by
  show s (ix3 b i r) * FloatOps.uitofp (F := Ideal) .f32 (Ideal.cmp .olt (cumArr s (ix3 b i r) - s (ix3 b i r)) Knn.mass) = _
  rw [cumArr_apply]
  unfold Knn.keptSorted
  by_cases h : Knn.running (fun l => s (ix3 b i l)) r - s (ix3 b i r) < Knn.mass
  · rw [Knn.ind_pos h]
    simp [Ideal.cmp, h, FloatOps.uitofp]
  · rw [Knn.ind_neg h]
    simp [Ideal.cmp, h, FloatOps.uitofp]

/-- The comparator of positions, read. -/
theorem comparatorNat_lt (u v : Fin 3) (s t : BitVec 32) :
    (comparator_i32_i32_d2 (BitVec.ofNat 32 u.val, s) (BitVec.ofNat 32 v.val, t) == 1#1) = decide (u < v) :=
  word_lt u v

/-- The positions of a row sorted: the order of its negated probabilities. -/
theorem order_apply (x : FVec Ideal S32x440x3 .f32) (b : Fin 32) (i : Fin 440) (k : Fin 3) :
    (Host.sort2 S32x440x3 2 (comparator_f32_i32_d2 (F := Ideal)) x (iotaInDim S32x440x3 32 2)).2 (ix3 b i k)
      = BitVec.ofNat 32 (Knn.ascending (fun l => x (ix3 b i l)) k).val := by
  refine (sort2_iota _ x b i k).trans ?_
  unfold Knn.ascending
  simp only [comparator_lt]

/-- The positions of a row of positions sorted. -/
theorem orderNat_apply (w : IVec S32x440x3 32) (b : Fin 32) (i : Fin 440) (σ : Fin 3 → Fin 3)
    (hw : ∀ k, w (ix3 b i k) = BitVec.ofNat 32 (σ k).val) (k : Fin 3) :
    (Host.sort2 S32x440x3 2 comparator_i32_i32_d2 w (iotaInDim S32x440x3 32 2)).2 (ix3 b i k)
      = BitVec.ofNat 32 (Knn.ascendingNat σ k).val := by
  refine (sort2_iota _ w b i k).trans ?_
  unfold Knn.ascendingNat
  simp only [hw, comparatorNat_lt]

/-- The order of a row's probabilities, read from the program. -/
theorem v156_apply (b : Fin 32) (i : Fin 440) (k : Fin 3) :
    res_main_v156 V0 (ix3 b i k) = BitVec.ofNat 32 (Knn.ascending (fun l => -Knn.softmax (logits V0 b i) l) k).val := by
  refine (order_apply (res_main_v155 V0) b i k).trans ?_
  have : (fun l => res_main_v155 V0 (ix3 b i l)) = fun l => -Knn.softmax (logits V0 b i) l := by
    funext l
    exact congrArg (fun e : EReal => -e) (softmax_apply V0 b i l)
  exact congrArg (fun d => BitVec.ofNat 32 (Knn.ascending d k).val) this

/-- The sorted probabilities. -/
theorem v157_apply (b : Fin 32) (i : Fin 440) (k : Fin 3) :
    res_main_v157 V0 (ix3 b i k) = Knn.softmax (logits V0 b i) (Knn.ascending (fun l => -Knn.softmax (logits V0 b i) l) k) :=
  (takeArr_apply (res_main_v154 V0) (res_main_v156 V0) b i k _ (v156_apply V0 b i k)).trans (softmax_apply V0 b i _)

/-- The experts' places in the order. -/
theorem v164_apply (b : Fin 32) (i : Fin 440) (k : Fin 3) :
    res_main_v164 V0 (ix3 b i k)
      = BitVec.ofNat 32 (Knn.ascendingNat (Knn.ascending fun l => -Knn.softmax (logits V0 b i) l) k).val :=
  orderNat_apply (res_main_v156 V0) b i _ (v156_apply V0 b i) k

/-- The kept probabilities at the experts' places. -/
theorem v165_apply (b : Fin 32) (i : Fin 440) (k : Fin 3) :
    res_main_v165 V0 (ix3 b i k) = Knn.keptRef (Knn.softmax (logits V0 b i)) k := by
  refine (takeArr_apply (maskedArr (res_main_v157 V0)) (res_main_v164 V0) b i k _ (v164_apply V0 b i k)).trans ?_
  rw [maskedArr_apply]
  simp only [v157_apply]
  rfl

/-- An array over its row sums with the smallest number added, as printed. -/
def weightArr (w : FVec Ideal S32x440x3 .f32) : FVec Ideal S32x440x3 .f32 :=
  Host.divf w (broadcastInDim S32x440x3 ![0, 1, 2] bcast_S32x440x1_S32x440x3_0_1_2 (addf (broadcastInDim S32x440x1 ![0, 1] bcast_S32x440_S32x440x1_0_1 (Host.reduceAdd w (constant S_ .f32 0x00000000#32) reducesTo_S32x440x3_S32x440_d2 h_S_)) (broadcastInDim S32x440x1 ![] bcast_S_S32x440x1 (constant S_ .f32 0x322BCC77#32))))

/-- The weights of an array at an index. -/
theorem weightArr_apply (w : FVec Ideal S32x440x3 .f32) (b : Fin 32) (i : Fin 440) (k : Fin 3) :
    weightArr w (ix3 b i k) = Knn.weight (fun k => w (ix3 b i k)) k := by
  pointwise [weightArr]
  rw [Fin.sum_univ_three]
  rfl

/-- The router's weights at an index. -/
theorem weight_apply (b : Fin 32) (i : Fin 440) (k : Fin 3) :
    res_main_v171 V0 (ix3 b i k) = Knn.weight (Knn.keptRef (Knn.softmax (logits V0 b i))) k := by
  refine (weightArr_apply (res_main_v165 V0) b i k).trans ?_
  exact congrArg (fun w => Knn.weight w k) (funext (v165_apply V0 b i))

end Cert.ReferenceIdeal.Read

end
-- ==== Proof.Router.lean ====
/- The router: masking the sorted probabilities by their running sum and returning them is keeping the probabilities
   whose predecessors' mass is below the mass kept. -/
module

public import proofs.«01_k».proof.Proof.Scale
public import proofs.«01_k».proof.Proof.RefWeights

@[expose] public section

set_option maxRecDepth 65536

noncomputable section

namespace Knn

open Idealize.ShloMosaic

/-- The greatest of three logits. -/
theorem largest_eq (l : Fin 3 → EReal) : largest l = Finset.univ.sup l := by
  have hb : Ideal.ofBits .f32 0xFF800000#32 = (⊥ : EReal) := by simp [Ideal.ofBits, Ideal.ieee]
  unfold largest
  rw [hb]
  exact max_eq_right bot_le

/-- A shifted exponential of a logit at most the shift is a real. -/
theorem shifted_real (x : EReal) (M : ℝ) (h : x ≤ (M : EReal)) : ∃ r : ℝ, 0 ≤ r ∧ Ideal.exp (x - (M : EReal)) = (r : EReal) := by
  induction x using EReal.rec with
  | bot => exact ⟨0, le_refl _, by simp⟩
  | top => exact absurd (top_le_iff.1 h) (EReal.coe_ne_top M)
  | coe r => exact ⟨Real.exp (r - M), (Real.exp_pos _).le, by rw [← EReal.coe_sub, Ideal.exp_coe]⟩

/-- The probabilities are three reals, or all of them are minus infinity. -/
theorem softmax_cases (l : Fin 3 → EReal) : (softmax l = fun _ => ⊥) ∨ ∃ r : Fin 3 → ℝ, softmax l = fun k => (r k : EReal) := by
  have hle : ∀ k, l k ≤ largest l := fun k => by rw [largest_eq]; exact Finset.le_sup (Finset.mem_univ k)
  obtain ⟨k0, -, hk0⟩ := Finset.exists_mem_eq_sup (Finset.univ : Finset (Fin 3)) ⟨0, Finset.mem_univ _⟩ l
  rw [← largest_eq] at hk0
  have hzero : (∀ k, Ideal.exp (l k - largest l) = 0) → softmax l = fun _ => ⊥ := by
    intro h
    funext k
    unfold softmax
    simp only [h, Finset.sum_const_zero]
    simp [Ideal.div]
  generalize hM : largest l = M at hle hk0 hzero
  induction M using EReal.rec with
  | bot =>
    refine Or.inl (hzero fun k => ?_)
    rw [le_bot_iff.1 (hle k)]
    simp
  | top =>
    refine Or.inl (hzero fun k => ?_)
    rw [sub_eq_add_neg, EReal.neg_top, EReal.add_bot, Ideal.exp_bot]
  | coe M =>
    right
    choose e he0 he using fun k => shifted_real (l k) M (hle k)
    have h1 : e k0 = 1 := by
      have := he k0
      rw [← hk0, ← EReal.coe_sub, Ideal.exp_coe, sub_self, Real.exp_zero] at this
      exact_mod_cast this.symm
    have hs : 0 < e 0 + e 1 + e 2 := by
      have a0 := he0 0
      have a1 := he0 1
      have a2 := he0 2
      match k0, h1 with
      | ⟨0, _⟩, h1 => change e 0 = 1 at h1; linarith
      | ⟨1, _⟩, h1 => change e 1 = 1 at h1; linarith
      | ⟨2, _⟩, h1 => change e 2 = 1 at h1; linarith
    refine ⟨fun k => e k * (e 0 + e 1 + e 2)⁻¹, ?_⟩
    funext k
    unfold softmax
    rw [hM, Fin.sum_univ_three, he, he, he, he, ← EReal.coe_add, ← EReal.coe_add,
      div_of_ne _ (by exact_mod_cast hs.ne'), ← EReal.coe_inv, ← EReal.coe_mul]

/-- The mass kept is positive. -/
theorem mass_pos : 0 < mass := by
  have : mass = ((14260634 / 2 ^ 24 : ℝ) : EReal) := by
    unfold mass
    simp [Ideal.ofBits, Ideal.ieee, -EReal.coe_mul]
    norm_num
  rw [this]
  exact_mod_cast (by positivity : (0 : ℝ) < 14260634 / 2 ^ 24)

/-- A relation of three positions from its six entries off the diagonal. -/
def table (a b c d e f : Bool) : Fin 3 → Fin 3 → Bool
  | 0, 1 => a
  | 1, 0 => b
  | 0, 2 => c
  | 2, 0 => d
  | 1, 2 => e
  | 2, 1 => f
  | _, _ => false

/-- Sorting a one-to-one listing's positions inverts it. -/
theorem ascendingNat_inverse : ∀ σ : Fin 3 → Fin 3, Function.Injective σ → ∀ k, σ (ascendingNat σ k) = k := by
  decide +kernel

/-- In a stable order of three positions the ones listed before a position are the ones its relation puts before it. -/
theorem placed_table : ∀ a b c d e f : Bool,
    (∀ x y, table a b c d e f x y = true → table a b c d e f y x = false) →
    (∀ x y z, table a b c d e f x y = true → table a b c d e f x z = true ∨ table a b c d e f z y = true) →
    ∀ k r : Fin 3, r < ascendingNat (sortedFrom (table a b c d e f)) k
      ↔ table a b c d e f (sortedFrom (table a b c d e f) r) k = true
        ∨ (table a b c d e f k (sortedFrom (table a b c d e f) r) = false ∧ sortedFrom (table a b c d e f) r < k) := by
  decide +kernel

/-- The same for any relation that compares keys. -/
theorem placed (R : Fin 3 → Fin 3 → Bool) (h1 : ∀ x y, R x y = true → R y x = false)
    (h2 : ∀ x y z, R x y = true → R x z = true ∨ R z y = true) (k r : Fin 3) :
    r < ascendingNat (sortedFrom R) k ↔ R (sortedFrom R r) k = true ∨ (R k (sortedFrom R r) = false ∧ sortedFrom R r < k) := by
  have hd : ∀ x, R x x = false := by
    intro x
    cases hx : R x x
    · rfl
    · exact absurd (h1 x x hx) (by rw [hx]; decide)
  have hR : R = table (R 0 1) (R 1 0) (R 0 2) (R 2 0) (R 1 2) (R 2 1) := by
    funext x y
    match x, y with
    | ⟨0, _⟩, ⟨0, _⟩ => exact hd 0
    | ⟨0, _⟩, ⟨1, _⟩ => rfl
    | ⟨0, _⟩, ⟨2, _⟩ => rfl
    | ⟨1, _⟩, ⟨0, _⟩ => rfl
    | ⟨1, _⟩, ⟨1, _⟩ => exact hd 1
    | ⟨1, _⟩, ⟨2, _⟩ => rfl
    | ⟨2, _⟩, ⟨0, _⟩ => rfl
    | ⟨2, _⟩, ⟨1, _⟩ => rfl
    | ⟨2, _⟩, ⟨2, _⟩ => exact hd 2
  generalize R 0 1 = a at hR
  generalize R 1 0 = b at hR
  generalize R 0 2 = c at hR
  generalize R 2 0 = d at hR
  generalize R 1 2 = e at hR
  generalize R 2 1 = f at hR
  subst hR
  exact placed_table a b c d e f h1 h2 k r

/-- A row's entries listed before a place, summed. -/
def prior (x : Fin 3 → EReal) (r : Fin 3) : EReal := ∑ q : Fin 3, if q < r then x q else 0

/-- For reals, the running sum less the entry is the sum before it. -/
theorem running_sub (x : Fin 3 → ℝ) (r : Fin 3) :
    running (fun q => (x q : EReal)) r - (x r : EReal) = prior (fun q => (x q : EReal)) r := by
  unfold prior
  rw [Fin.sum_univ_three]
  match r with
  | ⟨0, _⟩ =>
    show ((x 0 : ℝ) : EReal) - (x 0 : ℝ) = (if (0 : Fin 3) < 0 then _ else 0) + (if (1 : Fin 3) < 0 then _ else 0) + (if (2 : Fin 3) < 0 then _ else 0)
    rw [if_neg (by decide), if_neg (by decide), if_neg (by decide), ← EReal.coe_sub, sub_self]
    simp
  | ⟨1, _⟩ =>
    show ((x 0 : ℝ) : EReal) + (x 1 : ℝ) - (x 1 : ℝ) = (if (0 : Fin 3) < 1 then ((x 0 : ℝ) : EReal) else 0) + (if (1 : Fin 3) < 1 then _ else 0) + (if (2 : Fin 3) < 1 then _ else 0)
    rw [if_pos (by decide), if_neg (by decide), if_neg (by decide), ← EReal.coe_add, ← EReal.coe_sub, add_sub_cancel_right]
    simp
  | ⟨2, _⟩ =>
    show ((x 0 : ℝ) : EReal) + (x 1 : ℝ) + (x 2 : ℝ) - (x 2 : ℝ) = (if (0 : Fin 3) < 2 then ((x 0 : ℝ) : EReal) else 0) + (if (1 : Fin 3) < 2 then ((x 1 : ℝ) : EReal) else 0) + (if (2 : Fin 3) < 2 then _ else 0)
    rw [if_pos (by decide), if_pos (by decide), if_neg (by decide), ← EReal.coe_add, ← EReal.coe_add, ← EReal.coe_sub, add_sub_cancel_right]
    simp

/-- The kernel's mass before an expert, as a sum over the experts ahead of it. -/
theorem before_eq (p : Fin 3 → EReal) (k : Fin 3) :
    before p k = ∑ l : Fin 3, open Classical in if p k < p l ∨ (¬p l < p k ∧ l < k) then p l else 0 := by
  classical
  rw [Fin.sum_univ_three]
  have hF : ∀ (q : Prop) [Decidable q] (x : EReal), ¬q → (if q then x else 0) = 0 := fun q _ x h => if_neg h
  match k with
  | ⟨0, _⟩ =>
    show (if p 0 < p 1 then p 1 else 0) + (if p 0 < p 2 then p 2 else 0)
      = (if p 0 < p 0 ∨ (¬p 0 < p 0 ∧ (0 : Fin 3) < 0) then p 0 else 0) + (if p 0 < p 1 ∨ (¬p 1 < p 0 ∧ (1 : Fin 3) < 0) then p 1 else 0)
        + (if p 0 < p 2 ∨ (¬p 2 < p 0 ∧ (2 : Fin 3) < 0) then p 2 else 0)
    simp
  | ⟨1, _⟩ =>
    show (if p 1 ≤ p 0 then p 0 else 0) + (if p 1 < p 2 then p 2 else 0)
      = (if p 1 < p 0 ∨ (¬p 0 < p 1 ∧ (0 : Fin 3) < 1) then p 0 else 0) + (if p 1 < p 1 ∨ (¬p 1 < p 1 ∧ (1 : Fin 3) < 1) then p 1 else 0)
        + (if p 1 < p 2 ∨ (¬p 2 < p 1 ∧ (2 : Fin 3) < 1) then p 2 else 0)
    have e : (p 1 < p 0 ∨ (¬p 0 < p 1 ∧ (0 : Fin 3) < 1)) ↔ p 1 ≤ p 0 := by
      rw [not_lt]
      exact ⟨fun h => h.elim le_of_lt And.left, fun h => Or.inr ⟨h, by decide⟩⟩
    simp only [e]
    simp
  | ⟨2, _⟩ =>
    show (if p 2 ≤ p 0 then p 0 else 0) + (if p 2 ≤ p 1 then p 1 else 0)
      = (if p 2 < p 0 ∨ (¬p 0 < p 2 ∧ (0 : Fin 3) < 2) then p 0 else 0) + (if p 2 < p 1 ∨ (¬p 1 < p 2 ∧ (1 : Fin 3) < 2) then p 1 else 0)
        + (if p 2 < p 2 ∨ (¬p 2 < p 2 ∧ (2 : Fin 3) < 2) then p 2 else 0)
    have e0 : (p 2 < p 0 ∨ (¬p 0 < p 2 ∧ (0 : Fin 3) < 2)) ↔ p 2 ≤ p 0 := by
      rw [not_lt]
      exact ⟨fun h => h.elim le_of_lt And.left, fun h => Or.inr ⟨h, by decide⟩⟩
    have e1 : (p 2 < p 1 ∨ (¬p 1 < p 2 ∧ (1 : Fin 3) < 2)) ↔ p 2 ≤ p 1 := by
      rw [not_lt]
      exact ⟨fun h => h.elim le_of_lt And.left, fun h => Or.inr ⟨h, by decide⟩⟩
    simp only [e0, e1]
    simp

/-- The mass listed before an expert's place in the order is the kernel's mass before it. -/
theorem prior_eq (p : Fin 3 → EReal) (k : Fin 3) :
    prior (fun r => p (ascending (fun l => -p l) r)) (ascendingNat (ascending fun l => -p l) k) = before p k := by
  classical
  rw [before_eq]
  have hb : Function.Bijective (ascending fun l => -p l) := ⟨sortedFrom_injective _, sortedFrom_surjective _⟩
  unfold prior
  rw [← hb.sum_comp fun l => if p k < p l ∨ (¬p l < p k ∧ l < k) then p l else 0]
  refine Finset.sum_congr rfl fun r _ => ?_
  have hp := placed (fun l l' : Fin 3 => decide (-p l < -p l')) ?_ ?_ k r
  · have hp' : r < ascendingNat (ascending fun l => -p l) k ↔ (p k < p (ascending (fun l => -p l) r)
        ∨ (¬p (ascending (fun l => -p l) r) < p k ∧ ascending (fun l => -p l) r < k)) := by
      refine hp.trans ?_
      rw [decide_eq_true_iff, decide_eq_false_iff_not, EReal.neg_lt_neg_iff, EReal.neg_lt_neg_iff]
      rfl
    by_cases h : r < ascendingNat (ascending fun l => -p l) k
    · rw [if_pos h, if_pos (hp'.1 h)]
    · rw [if_neg h, if_neg fun q => h (hp'.2 q)]
  · intro x y h
    rw [decide_eq_true_iff] at h
    rw [decide_eq_false_iff_not]
    exact not_lt.2 h.le
  · intro x y z h
    rw [decide_eq_true_iff] at h ⊢
    rw [decide_eq_true_iff]
    by_cases q : -p x < -p z
    · exact Or.inl q
    · exact Or.inr ((not_lt.1 q).trans_lt h)

/-- Both programs keep the same probabilities. -/
theorem kept_eq (l : Fin 3 → EReal) : kept (softmax l) = keptRef (softmax l) := by
  funext k
  rcases softmax_cases l with h | ⟨r, h⟩
  · rw [h]
    have h1 : ∀ q : Fin 3, running (fun _ => (⊥ : EReal)) q = ⊥ := by
      intro q
      match q with
      | ⟨0, _⟩ => rfl
      | ⟨1, _⟩ => exact EReal.bot_add _
      | ⟨2, _⟩ => exact EReal.add_bot _
    have hr : keptRef (fun _ => ⊥) k = ⊥ := by
      show (⊥ : EReal) * ind (running (fun _ => ⊥) _ - ⊥ < mass) = ⊥
      rw [h1, ind_pos, mul_one]
      have : (⊥ : EReal) - ⊥ = ⊥ := by simp
      rw [this]
      exact bot_lt_iff_ne_bot.2 (ne_bot_of_gt mass_pos)
    have hb : before (fun _ => ⊥) k ≤ 0 := by
      match k with
      | ⟨0, _⟩ => simp [before]
      | ⟨1, _⟩ => simp [before]
      | ⟨2, _⟩ => simp [before]
    rw [hr]
    unfold kept
    rw [if_pos (hb.trans_lt mass_pos)]
  · have hs := ascendingNat_inverse (ascending fun l' => -softmax l l') (sortedFrom_injective _) k
    have hrun := running_sub (fun q => r (ascending (fun l' => -softmax l l') q)) (ascendingNat (ascending fun l' => -softmax l l') k)
    have hx : (fun q => ((r (ascending (fun l' => -softmax l l') q) : ℝ) : EReal)) = fun q => softmax l (ascending (fun l' => -softmax l l') q) := by
      funext q; rw [h]
    rw [hx, prior_eq] at hrun
    have hk : ((r (ascending (fun l' => -softmax l l') (ascendingNat (ascending fun l' => -softmax l l') k)) : ℝ) : EReal) = softmax l k := by
      rw [hs, h]
    rw [hk] at hrun
    unfold keptRef keptSorted kept
    dsimp only
    rw [hs, hrun]
    by_cases q : before (softmax l) k < mass
    · rw [if_pos q, ind_pos q, mul_one]
    · rw [if_neg q, ind_neg q, mul_zero]

end Knn

end
-- ==== Proof.RefGate.lean ====
/- The reference's gate at an index: two dense layers with the activation of the series between them. -/
module

public import proofs.«01_k».proof.Proof.RefNear

@[expose] public section

set_option maxRecDepth 16384

noncomputable section

namespace Knn

open Idealize.ShloMosaic

/-- One minus the Abramowitz-Stegun series of five powers of `t`, times the bell. -/
def seriesOf (v t : EReal) : EReal :=
  1 - (Ideal.ofBits .f32 0x3E827906#32 * t + Ideal.ofBits .f32 0xBE91A98E#32 * (t * t) + Ideal.ofBits .f32 0x3FB5F0E3#32 * (t * t * t)
    + Ideal.ofBits .f32 0xBFBA00E3#32 * (t * t * t * t) + Ideal.ofBits .f32 0x3F87DC22#32 * (t * t * t * t * t)) * Ideal.exp (-(v * v))

/-- The error function as the reference states it: an odd extension of one minus the series. -/
def erfSeries (v : EReal) : EReal :=
  let y := seriesOf v (Ideal.div 1 (1 + Ideal.ofBits .f32 0x3EA7BA05#32 * max v (-v)))
  if 0 ≤ v then y else -y

end Knn

namespace Cert.ReferenceIdeal.Read

open Idealize.ShloMosaic
open Cert.ReferenceIdeal Cert.ReferenceIdeal.Gen Cert.ReferenceIdeal.Value

variable (V0 : Valuation τ sig (Elt Ideal))

/-- The number one. -/
theorem one_bits : Ideal.ofBits FTy.f32 0x3F800000#32 = 1 := by
  simp [Ideal.ofBits, Ideal.ieee, -EReal.coe_mul]; norm_num

/-- The number zero. -/
theorem zero_bits : Ideal.ofBits FTy.f32 0x00000000#32 = 0 := by
  simp [Ideal.ofBits, Ideal.ieee]

/-- The hidden layer before its activation. -/
theorem v175_apply (b : Fin 32) (i : Fin 440) (k : Fin 64) : res_main_v175 V0 (ix3 b i k)
    = Knn.project (fun i d => V0 (Proc.devRef .tc main_arg0) (ix3 b i d)) (fun d k => V0 (Proc.devRef .tc main_arg4) (ix2 d k)) i k
      + V0 (Proc.devRef .tc main_arg5) (ix1 k) := by
  pointwise [res_main_v175]
  rfl

/-- A selection by a comparison with zero. -/
theorem select_oge (v y z : EReal) : Scalar.select (Ideal.cmp .oge v 0) y z = if 0 ≤ v then y else z := by
  by_cases h : 0 ≤ v
  · simp [Ideal.cmp, Scalar.select, h]
  · simp [Ideal.cmp, Scalar.select, h]

/-- The hidden layer's entry before its activation. -/
abbrev hid (q : S32x440x64.Idx) : EReal := res_main_v175 V0 q
/-- The scaled hidden layer's entry. -/
abbrev arg (q : S32x440x64.Idx) : EReal := res_main_v179 V0 q
/-- The series' variable. -/
abbrev var (q : S32x440x64.Idx) : EReal := res_main_v186 V0 q
/-- One minus the series. -/
abbrev ser (q : S32x440x64.Idx) : EReal := res_main_v216 V0 q

/-- The activated hidden layer, as printed. -/
def actArr : FVec Ideal S32x440x64 .f32 :=
  mulf (mulf (broadcastInDim S32x440x64 ![] bcast_S_S32x440x64 (constant S_ .f32 0x3F000000#32)) (res_main_v175 V0)) (addf (broadcastInDim S32x440x64 ![] bcast_S_S32x440x64 (constant S_ .f32 0x3F800000#32)) (select (cmpf .oge (res_main_v179 V0) (broadcastInDim S32x440x64 ![] bcast_S_S32x440x64 (constant S_ .f32 0x00000000#32))) (res_main_v216 V0) (Host.negf (res_main_v216 V0))))

/-- The scaled hidden layer at an index. -/
theorem arg_apply (q : S32x440x64.Idx) : arg V0 q = hid V0 q * Ideal.ofBits .f32 0x3F3504F3#32 := rfl

/-- The series' variable at an index. -/
theorem var_apply (q : S32x440x64.Idx) : var V0 q
    = Ideal.div 1 (1 + Ideal.ofBits .f32 0x3EA7BA05#32 * max (arg V0 q) (-(arg V0 q))) := by
  show Ideal.div (Ideal.ofBits .f32 0x3F800000#32) (Ideal.ofBits .f32 0x3F800000#32 + Ideal.ofBits .f32 0x3EA7BA05#32 * max (arg V0 q) (-(arg V0 q))) = _
  rw [one_bits]

/-- One minus the series at an index. -/
theorem ser_apply (q : S32x440x64.Idx) : ser V0 q = Knn.seriesOf (arg V0 q) (var V0 q) := by
  unfold Knn.seriesOf
  rw [← one_bits]
  rfl

/-- The activated hidden layer at an index. -/
theorem actArr_apply (q : S32x440x64.Idx) : actArr V0 q = Knn.gelu Knn.erfSeries (hid V0 q) := by
  show Ideal.ofBits .f32 0x3F000000#32 * hid V0 q * (Ideal.ofBits .f32 0x3F800000#32
    + Scalar.select (Ideal.cmp .oge (arg V0 q) (Ideal.ofBits .f32 0x00000000#32)) (ser V0 q) (-(ser V0 q))) = _
  rw [one_bits, zero_bits, select_oge, ser_apply, var_apply, arg_apply]
  rfl

/-- The second layer and its logistic, as printed, over any hidden layer. -/
def gateArr (A : FVec Ideal S32x440x64 .f32) (W : FVec Ideal S64x1 .f32) (c : FVec Ideal S1 .f32) : FVec Ideal S32x440 .f32 :=
  shapeCast _ (Host.divf (broadcastInDim S32x440x1 ![] bcast_S_S32x440x1 (constant S_ .f32 0x3F800000#32)) (addf (broadcastInDim S32x440x1 ![] bcast_S_S32x440x1 (constant S_ .f32 0x3F800000#32)) (Host.exp (Host.negf (addf (Host.dotGeneral dot_S32x440x64_S64x1_S32x440x1_2_0_01_1_n_n none A W) (broadcastInDim S32x440x1 ![0, 1, 2] bcast_S1x1x1_S32x440x1_0_1_2 (broadcastInDim S1x1x1 ![2] bcast_S1_S1x1x1_2 c))))))) shapeCasts_S32x440x1_S32x440

/-- The second layer and its logistic at an index. -/
theorem gateArr_apply (A : FVec Ideal S32x440x64 .f32) (W : FVec Ideal S64x1 .f32) (c : FVec Ideal S1 .f32) (b : Fin 32) (i : Fin 440) :
    gateArr A W c (ix2 b i) = Ideal.logistic ((∑ k, A (ix3 b i k) * W (ix2 k 0)) + c (ix1 0)) := by
  have h : gateArr A W c (ix2 b i) = Ideal.div (Ideal.ofBits FTy.f32 0x3F800000#32) (Ideal.ofBits FTy.f32 0x3F800000#32 + Ideal.exp (-((∑ k, A (ix3 b i k) * W (ix2 k 0)) + c (ix1 0)))) := by
    pointwise [gateArr]
  rw [h, one_bits]
  rfl

/-- The gate at an index. -/
theorem gate_apply (b : Fin 32) (i : Fin 440) : res_main_v234 V0 (ix2 b i)
    = Knn.gate Knn.erfSeries (fun i d => V0 (Proc.devRef .tc main_arg0) (ix3 b i d)) (fun d k => V0 (Proc.devRef .tc main_arg4) (ix2 d k))
        (fun k => V0 (Proc.devRef .tc main_arg5) (ix1 k)) (fun k => V0 (Proc.devRef .tc main_arg6) (ix2 k 0))
        (V0 (Proc.devRef .tc main_arg7) (ix1 0)) i := by
  refine (gateArr_apply (actArr V0) _ _ b i).trans ?_
  simp only [actArr_apply, v175_apply]
  rfl

end Cert.ReferenceIdeal.Read

end
-- ==== Proof.Erf.lean ====
/- The error function: the kernel's nested series with a sign is the reference's sum of powers extended oddly. -/
module

public import proofs.«01_k».proof.Proof.Scale
public import proofs.«01_k».proof.Proof.RefGate

@[expose] public section

noncomputable section

namespace Knn

open Idealize.ShloMosaic

/-- The rate of the series' variable, a real. -/
theorem rate_eq : Ideal.ofBits .f32 0x3EA7BA05#32 = ((10992133 / 2 ^ 25 : ℝ) : EReal) := by
  simp [Ideal.ofBits, Ideal.ieee, -EReal.coe_mul]
  norm_num

/-- The series' first coefficient, a real. -/
theorem coef1_eq : Ideal.ofBits .f32 0x3E827906#32 = ((8550662 / 2 ^ 25 : ℝ) : EReal) := by
  simp [Ideal.ofBits, Ideal.ieee, -EReal.coe_mul]
  norm_num

/-- The series' second coefficient, a real. -/
theorem coef2_eq : Ideal.ofBits .f32 0xBE91A98E#32 = ((-9546126 / 2 ^ 25 : ℝ) : EReal) := by
  simp [Ideal.ofBits, Ideal.ieee, -EReal.coe_mul]
  norm_num

/-- The series' third coefficient, a real. -/
theorem coef3_eq : Ideal.ofBits .f32 0x3FB5F0E3#32 = ((11923683 / 2 ^ 23 : ℝ) : EReal) := by
  simp [Ideal.ofBits, Ideal.ieee, -EReal.coe_mul]
  norm_num

/-- The series' fourth coefficient, a real. -/
theorem coef4_eq : Ideal.ofBits .f32 0xBFBA00E3#32 = ((-12189923 / 2 ^ 23 : ℝ) : EReal) := by
  simp [Ideal.ofBits, Ideal.ieee, -EReal.coe_mul]
  norm_num

/-- The series' fifth coefficient, a real. -/
theorem coef5_eq : Ideal.ofBits .f32 0x3F87DC22#32 = ((8903714 / 2 ^ 23 : ℝ) : EReal) := by
  simp [Ideal.ofBits, Ideal.ieee, -EReal.coe_mul]
  norm_num

/-- A number's magnitude is not negative. -/
theorem magnitude_nonneg (v : EReal) : 0 ≤ max v (-v) := by
  rcases le_total 0 v with h | h
  · exact h.trans (le_max_left _ _)
  · exact (by simpa using EReal.neg_le_neg_iff.2 h : (0 : EReal) ≤ -v).trans (le_max_right _ _)

/-- The negated magnitude times the magnitude is the negated square. -/
theorem bell_eq (v : EReal) : (0 - max v (-v)) * max v (-v) = -(v * v) := by
  rw [zero_sub, EReal.neg_mul]
  rcases max_cases v (-v) with h | h
  · rw [h.1]
  · rw [h.1, neg_mul, mul_neg, neg_neg]

/-- The series' variable is a real. -/
theorem variable_real (a : EReal) (ha : 0 ≤ a) :
    ∃ t : ℝ, Ideal.div 1 (1 + Ideal.ofBits .f32 0x3EA7BA05#32 * a) = (t : EReal) := by
  rw [rate_eq]
  induction a using EReal.rec with
  | bot => simp at ha
  | top =>
    refine ⟨0, ?_⟩
    rw [EReal.coe_mul_top_of_pos (by positivity), EReal.add_top_of_ne_bot (show (1 : EReal) ≠ ⊥ from EReal.coe_ne_bot 1)]
    simp [Ideal.div]
  | coe r =>
    have hr : 0 ≤ r := by exact_mod_cast ha
    have hp : 0 < 1 + (10992133 / 2 ^ 25) * r := by positivity
    refine ⟨(1 + (10992133 / 2 ^ 25) * r)⁻¹, ?_⟩
    rw [← EReal.coe_mul, ← EReal.coe_one, ← EReal.coe_add, div_of_ne _ (by exact_mod_cast hp.ne'), ← EReal.coe_inv, ← EReal.coe_mul, one_mul]

/-- The nested series is the sum of powers. -/
theorem series_eq (t : ℝ) :
    (t : EReal) * (Ideal.ofBits .f32 0x3E827906#32 + t * (Ideal.ofBits .f32 0xBE91A98E#32 + t * (Ideal.ofBits .f32 0x3FB5F0E3#32
        + t * (Ideal.ofBits .f32 0xBFBA00E3#32 + t * Ideal.ofBits .f32 0x3F87DC22#32))))
      = Ideal.ofBits .f32 0x3E827906#32 * t + Ideal.ofBits .f32 0xBE91A98E#32 * (t * t) + Ideal.ofBits .f32 0x3FB5F0E3#32 * (t * t * t)
        + Ideal.ofBits .f32 0xBFBA00E3#32 * (t * t * t * t) + Ideal.ofBits .f32 0x3F87DC22#32 * (t * t * t * t * t) := by
  rw [coef1_eq, coef2_eq, coef3_eq, coef4_eq, coef5_eq]
  simp only [← EReal.coe_mul, ← EReal.coe_add]
  congr 1
  ring

/-- The two programs' error functions agree. -/
theorem erf_eq : erfHorner = erfSeries := by
  funext v
  obtain ⟨t, ht⟩ := variable_real (max v (-v)) (magnitude_nonneg v)
  unfold erfHorner erfSeries seriesOf
  dsimp only
  rw [ht, series_eq, bell_eq, minusOne_eq]
  by_cases h : 0 ≤ v
  · rw [if_pos h, if_pos h, one_mul]
  · rw [if_neg h, if_neg h, EReal.neg_mul, one_mul]

end Knn

end
-- ==== Proof.Steps.lean ====
/- The second kernel's search for the neighbour threshold: its unrolled halvings are one step iterated, which at a row
is the halving of `Knn.halve`. -/
module

public import proofs.«01_k».proof.Proof.Gen.KernelIdeal.Frame
public import proofs.«01_k».proof.Proof.Bisect
public import Idealize.ShloMosaic.Lib.Pointwise

@[expose] public section

set_option maxRecDepth 16384

noncomputable section

namespace Cert.KernelIdeal.Out

open Idealize.ShloMosaic
open Cert.KernelIdeal.Gen

/-- A column of 1760 entries, one per head and row. -/
abbrev Col := FVec Ideal S1760x1 .f32
/-- The four heads' squared distances, stacked. -/
abbrev Stack := FVec Ideal S1760x440 .f32

/-- The middle of two columns of bounds. -/
def bmid (p : Col × Col) : Col := mulf (broadcast S1760x1 (Scalar.ofBits .f32 0x3F000000#32)) (addf p.1 p.2)

/-- Which entries of the stack are at most their row's bound. -/
def below (D : Stack) (x : Col) : IVec S1760x440 1 := cmpf .ole D (broadcastTo S1760x440 x broadcasts_S1760x1_S1760x440)

/-- How many entries of each row are at most the row's bound. -/
def count (D : Stack) (x : Col) : Col :=
  matmul dot_S1760x440_S440x1_S1760x1_1_0_0_1_n_n none
    (select (below D x) (broadcast S1760x440 (Scalar.ofBits .f32 0x3F800000#32))
      (broadcast S1760x440 (Scalar.ofBits .f32 0x00000000#32))) (k1_pay10 (F := Ideal)) (constant S1760x1 .f32 0x00000000#32)

/-- Which rows have at least 66 entries at most the middle. -/
def enough (D : Stack) (p : Col × Col) : IVec S1760x1 1 := cmpf .oge (count D (bmid p)) (k1_pay15 (F := Ideal))

/-- One halving of all rows' bounds. -/
def bstep (D : Stack) (p : Col × Col) : Col × Col :=
  (select (enough D p) p.1 (bmid p), select (enough D p) (bmid p) p.2)

/-- The first four halvings. -/
theorem stage1 (D : Stack) (p : Col × Col) :
    k1_pay29 (F := Ideal) D k1_pay10 p.1 p.2 (bmid p) (count D (bmid p)) k1_pay15 = ((bstep D)^[4] p).1
    ∧ k1_pay30 (F := Ideal) D k1_pay10 p.1 p.2 (bmid p) (count D (bmid p)) k1_pay15 = ((bstep D)^[4] p).2
    ∧ k1_pay31 (F := Ideal) D k1_pay10 p.1 p.2 (bmid p) (count D (bmid p)) k1_pay15
        = addf ((bstep D)^[4] p).1 ((bstep D)^[4] p).2 := ⟨rfl, rfl, rfl⟩

/-- The next three halvings. -/
theorem stage2 (D : Stack) (p : Col × Col) :
    k1_pay43 (F := Ideal) D k1_pay10 p.1 p.2 (addf p.1 p.2) k1_pay32 = ((bstep D)^[3] p).1
    ∧ k1_pay44 (F := Ideal) D k1_pay10 p.1 p.2 (addf p.1 p.2) k1_pay32 = ((bstep D)^[3] p).2
    ∧ k1_pay45 (F := Ideal) D k1_pay10 p.1 p.2 (addf p.1 p.2) k1_pay32 = bmid ((bstep D)^[3] p)
    ∧ k1_pay46 (F := Ideal) D k1_pay10 p.1 p.2 (addf p.1 p.2) k1_pay32 = below D (bmid ((bstep D)^[3] p)) :=
  ⟨rfl, rfl, rfl, rfl⟩

/-- Three more halvings. -/
theorem stage3 (D : Stack) (p : Col × Col) :
    k1_pay57 (F := Ideal) D k1_pay10 p.1 p.2 (bmid p) (below D (bmid p)) (Scalar.ofBits .f32 0x00000000#32) k1_pay47 = ((bstep D)^[3] p).1
    ∧ k1_pay58 (F := Ideal) D k1_pay10 p.1 p.2 (bmid p) (below D (bmid p)) (Scalar.ofBits .f32 0x00000000#32) k1_pay47 = ((bstep D)^[3] p).2
    ∧ k1_pay59 (F := Ideal) D k1_pay10 p.1 p.2 (bmid p) (below D (bmid p)) (Scalar.ofBits .f32 0x00000000#32) k1_pay47 = bmid ((bstep D)^[3] p)
    ∧ k1_pay60 (F := Ideal) D k1_pay10 p.1 p.2 (bmid p) (below D (bmid p)) (Scalar.ofBits .f32 0x00000000#32) k1_pay47
        = count D (bmid ((bstep D)^[3] p)) :=
  ⟨rfl, rfl, rfl, rfl⟩

/-- Four more halvings. -/
theorem stage4 (D : Stack) (p : Col × Col) :
    k1_pay75 (F := Ideal) D k1_pay10 p.1 p.2 (bmid p) (count D (bmid p)) k1_pay61 = ((bstep D)^[4] p).1
    ∧ k1_pay76 (F := Ideal) D k1_pay10 p.1 p.2 (bmid p) (count D (bmid p)) k1_pay61 = ((bstep D)^[4] p).2
    ∧ k1_pay77 (F := Ideal) D k1_pay10 p.1 p.2 (bmid p) (count D (bmid p)) k1_pay61
        = addf ((bstep D)^[4] p).1 ((bstep D)^[4] p).2 := ⟨rfl, rfl, rfl⟩

/-- Three more halvings. -/
theorem stage5 (D : Stack) (p : Col × Col) :
    k1_pay89 (F := Ideal) D k1_pay10 p.1 p.2 (addf p.1 p.2) k1_pay78 = ((bstep D)^[3] p).1
    ∧ k1_pay90 (F := Ideal) D k1_pay10 p.1 p.2 (addf p.1 p.2) k1_pay78 = ((bstep D)^[3] p).2
    ∧ k1_pay91 (F := Ideal) D k1_pay10 p.1 p.2 (addf p.1 p.2) k1_pay78 = bmid ((bstep D)^[3] p)
    ∧ k1_pay92 (F := Ideal) D k1_pay10 p.1 p.2 (addf p.1 p.2) k1_pay78 = below D (bmid ((bstep D)^[3] p)) :=
  ⟨rfl, rfl, rfl, rfl⟩

/-- Three more halvings. -/
theorem stage6 (D : Stack) (p : Col × Col) :
    k1_pay103 (F := Ideal) D k1_pay10 p.1 p.2 (bmid p) (below D (bmid p)) (Scalar.ofBits .f32 0x00000000#32) k1_pay93 = ((bstep D)^[3] p).1
    ∧ k1_pay104 (F := Ideal) D k1_pay10 p.1 p.2 (bmid p) (below D (bmid p)) (Scalar.ofBits .f32 0x00000000#32) k1_pay93 = ((bstep D)^[3] p).2
    ∧ k1_pay105 (F := Ideal) D k1_pay10 p.1 p.2 (bmid p) (below D (bmid p)) (Scalar.ofBits .f32 0x00000000#32) k1_pay93 = bmid ((bstep D)^[3] p)
    ∧ k1_pay106 (F := Ideal) D k1_pay10 p.1 p.2 (bmid p) (below D (bmid p)) (Scalar.ofBits .f32 0x00000000#32) k1_pay93
        = count D (bmid ((bstep D)^[3] p)) :=
  ⟨rfl, rfl, rfl, rfl⟩

/-- The last two halvings, of which the upper bounds are kept. -/
theorem stage7 (D : Stack) (p : Col × Col) :
    k1_pay108 (F := Ideal) D k1_pay10 p.1 p.2 (bmid p) (count D (bmid p)) k1_pay107 = ((bstep D)^[2] p).2 := rfl

/-- The first middle is that of zero and the rows' largest entries. -/
theorem start_mid (v1 : FVec Ideal S440x128 .f32) (v18 v32 : FVec Ideal S440x440 .f32) (v34 : FVec Ideal S128x32 .f32)
    (v47 : Vec Ideal S1x128x32 .f32) :
    k1_pay13 (F := Ideal) v1 v18 v32 v34 v47 = bmid (k1_pay11, k1_pay12 v1 v18 v32 v34 v47) := by
  dsimp only [k1_pay13, bmid]

/-- The first count is that at the first middle. -/
theorem start_count (v1 : FVec Ideal S440x128 .f32) (v18 v32 : FVec Ideal S440x440 .f32) (v34 : FVec Ideal S128x32 .f32)
    (v47 : Vec Ideal S1x128x32 .f32) :
    k1_pay14 (F := Ideal) v1 v18 v32 v34 v47
      = count (k1_pay9 v1 v18 v32 v34 v47) (bmid (k1_pay11, k1_pay12 v1 v18 v32 v34 v47)) := by
  rw [← start_mid]; unfold k1_pay14 count below; rfl

/-- The column of thresholds is the upper bounds after 22 halvings of the stacked squared distances' rows, from zero and
the row's largest entry. -/
theorem thresholds_eq (x0 : Vec Ideal S1x440x128 .f32) (x1 : Vec Ideal S4x128x32 .f32) (x2 : Vec Ideal S128x3 .f32) (x3 : Vec Ideal S1x3 .f32) (x4 : Vec Ideal S128x64 .f32) (x5 : Vec Ideal S1x64 .f32) (x6 : Vec Ideal S64x1 .f32) (x7 : Vec Ideal S1x1 .f32) (x8 : Vec Ideal S1x1 .f32) (x9 : Vec Ideal S32x1x8 .f32) (x10 : Vec Ideal S440x440 .f32) (x11 : Vec Ideal S440x440 .f32) :
    k1_pay177 x0 x1 x2 x3 x4 x5 x6 x7 x8 x9 x10 x11 = ((bstep (k1_pay142 x0 x1 x2 x3 x4 x5 x6 x7 x8 x9 x10 x11))^[22] (k1_pay144 x0 x1 x2 x3 x4 x5 x6 x7 x8 x9 x10 x11, k1_pay145 x0 x1 x2 x3 x4 x5 x6 x7 x8 x9 x10 x11)).2 := by
  obtain ⟨p0, h0⟩ : ∃ p : Col × Col, p = (k1_pay144 x0 x1 x2 x3 x4 x5 x6 x7 x8 x9 x10 x11, k1_pay145 x0 x1 x2 x3 x4 x5 x6 x7 x8 x9 x10 x11) := ⟨_, rfl⟩
  rw [← h0]
  have e1 : k1_pay144 x0 x1 x2 x3 x4 x5 x6 x7 x8 x9 x10 x11 = p0.1 := by rw [h0]
  have e2 : k1_pay145 x0 x1 x2 x3 x4 x5 x6 x7 x8 x9 x10 x11 = p0.2 := by rw [h0]
  have e3 : k1_pay146 x0 x1 x2 x3 x4 x5 x6 x7 x8 x9 x10 x11 = bmid p0 := by
    rw [h0]; exact start_mid (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5)
  have e4 : k1_pay147 x0 x1 x2 x3 x4 x5 x6 x7 x8 x9 x10 x11 = count (k1_pay142 x0 x1 x2 x3 x4 x5 x6 x7 x8 x9 x10 x11) (bmid p0) := by
    rw [h0]; exact start_count (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5)
  obtain ⟨p1, h1⟩ : ∃ p : Col × Col, p = ((bstep (k1_pay142 x0 x1 x2 x3 x4 x5 x6 x7 x8 x9 x10 x11))^[4] p0) := ⟨_, rfl⟩
  have f10 : k1_pay149 x0 x1 x2 x3 x4 x5 x6 x7 x8 x9 x10 x11 = p1.1 := by
    show k1_pay29 (k1_pay142 x0 x1 x2 x3 x4 x5 x6 x7 x8 x9 x10 x11) (k1_pay143 x0 x1 x2 x3 x4 x5 x6 x7 x8 x9 x10 x11) (k1_pay144 x0 x1 x2 x3 x4 x5 x6 x7 x8 x9 x10 x11) (k1_pay145 x0 x1 x2 x3 x4 x5 x6 x7 x8 x9 x10 x11) (k1_pay146 x0 x1 x2 x3 x4 x5 x6 x7 x8 x9 x10 x11) (k1_pay147 x0 x1 x2 x3 x4 x5 x6 x7 x8 x9 x10 x11) (k1_pay148 x0 x1 x2 x3 x4 x5 x6 x7 x8 x9 x10 x11) = _
    rw [e1, e2, e3, e4, h1]; exact (stage1 (k1_pay142 x0 x1 x2 x3 x4 x5 x6 x7 x8 x9 x10 x11) p0).1
  have f11 : k1_pay150 x0 x1 x2 x3 x4 x5 x6 x7 x8 x9 x10 x11 = p1.2 := by
    show k1_pay30 (k1_pay142 x0 x1 x2 x3 x4 x5 x6 x7 x8 x9 x10 x11) (k1_pay143 x0 x1 x2 x3 x4 x5 x6 x7 x8 x9 x10 x11) (k1_pay144 x0 x1 x2 x3 x4 x5 x6 x7 x8 x9 x10 x11) (k1_pay145 x0 x1 x2 x3 x4 x5 x6 x7 x8 x9 x10 x11) (k1_pay146 x0 x1 x2 x3 x4 x5 x6 x7 x8 x9 x10 x11) (k1_pay147 x0 x1 x2 x3 x4 x5 x6 x7 x8 x9 x10 x11) (k1_pay148 x0 x1 x2 x3 x4 x5 x6 x7 x8 x9 x10 x11) = _
    rw [e1, e2, e3, e4, h1]; exact (stage1 (k1_pay142 x0 x1 x2 x3 x4 x5 x6 x7 x8 x9 x10 x11) p0).2.1
  have f12 : k1_pay151 x0 x1 x2 x3 x4 x5 x6 x7 x8 x9 x10 x11 = addf p1.1 p1.2 := by
    show k1_pay31 (k1_pay142 x0 x1 x2 x3 x4 x5 x6 x7 x8 x9 x10 x11) (k1_pay143 x0 x1 x2 x3 x4 x5 x6 x7 x8 x9 x10 x11) (k1_pay144 x0 x1 x2 x3 x4 x5 x6 x7 x8 x9 x10 x11) (k1_pay145 x0 x1 x2 x3 x4 x5 x6 x7 x8 x9 x10 x11) (k1_pay146 x0 x1 x2 x3 x4 x5 x6 x7 x8 x9 x10 x11) (k1_pay147 x0 x1 x2 x3 x4 x5 x6 x7 x8 x9 x10 x11) (k1_pay148 x0 x1 x2 x3 x4 x5 x6 x7 x8 x9 x10 x11) = _
    rw [e1, e2, e3, e4, h1]; exact (stage1 (k1_pay142 x0 x1 x2 x3 x4 x5 x6 x7 x8 x9 x10 x11) p0).2.2
  obtain ⟨p2, h2⟩ : ∃ p : Col × Col, p = ((bstep (k1_pay142 x0 x1 x2 x3 x4 x5 x6 x7 x8 x9 x10 x11))^[3] p1) := ⟨_, rfl⟩
  have f20 : k1_pay153 x0 x1 x2 x3 x4 x5 x6 x7 x8 x9 x10 x11 = p2.1 := by
    show k1_pay43 (k1_pay142 x0 x1 x2 x3 x4 x5 x6 x7 x8 x9 x10 x11) (k1_pay143 x0 x1 x2 x3 x4 x5 x6 x7 x8 x9 x10 x11) (k1_pay149 x0 x1 x2 x3 x4 x5 x6 x7 x8 x9 x10 x11) (k1_pay150 x0 x1 x2 x3 x4 x5 x6 x7 x8 x9 x10 x11) (k1_pay151 x0 x1 x2 x3 x4 x5 x6 x7 x8 x9 x10 x11) (k1_pay152 x0 x1 x2 x3 x4 x5 x6 x7 x8 x9 x10 x11) = _
    rw [f10, f11, f12, h2]; exact (stage2 (k1_pay142 x0 x1 x2 x3 x4 x5 x6 x7 x8 x9 x10 x11) p1).1
  have f21 : k1_pay154 x0 x1 x2 x3 x4 x5 x6 x7 x8 x9 x10 x11 = p2.2 := by
    show k1_pay44 (k1_pay142 x0 x1 x2 x3 x4 x5 x6 x7 x8 x9 x10 x11) (k1_pay143 x0 x1 x2 x3 x4 x5 x6 x7 x8 x9 x10 x11) (k1_pay149 x0 x1 x2 x3 x4 x5 x6 x7 x8 x9 x10 x11) (k1_pay150 x0 x1 x2 x3 x4 x5 x6 x7 x8 x9 x10 x11) (k1_pay151 x0 x1 x2 x3 x4 x5 x6 x7 x8 x9 x10 x11) (k1_pay152 x0 x1 x2 x3 x4 x5 x6 x7 x8 x9 x10 x11) = _
    rw [f10, f11, f12, h2]; exact (stage2 (k1_pay142 x0 x1 x2 x3 x4 x5 x6 x7 x8 x9 x10 x11) p1).2.1
  have f22 : k1_pay155 x0 x1 x2 x3 x4 x5 x6 x7 x8 x9 x10 x11 = bmid p2 := by
    show k1_pay45 (k1_pay142 x0 x1 x2 x3 x4 x5 x6 x7 x8 x9 x10 x11) (k1_pay143 x0 x1 x2 x3 x4 x5 x6 x7 x8 x9 x10 x11) (k1_pay149 x0 x1 x2 x3 x4 x5 x6 x7 x8 x9 x10 x11) (k1_pay150 x0 x1 x2 x3 x4 x5 x6 x7 x8 x9 x10 x11) (k1_pay151 x0 x1 x2 x3 x4 x5 x6 x7 x8 x9 x10 x11) (k1_pay152 x0 x1 x2 x3 x4 x5 x6 x7 x8 x9 x10 x11) = _
    rw [f10, f11, f12, h2]; exact (stage2 (k1_pay142 x0 x1 x2 x3 x4 x5 x6 x7 x8 x9 x10 x11) p1).2.2.1
  have f23 : k1_pay156 x0 x1 x2 x3 x4 x5 x6 x7 x8 x9 x10 x11 = below (k1_pay142 x0 x1 x2 x3 x4 x5 x6 x7 x8 x9 x10 x11) (bmid p2) := by
    show k1_pay46 (k1_pay142 x0 x1 x2 x3 x4 x5 x6 x7 x8 x9 x10 x11) (k1_pay143 x0 x1 x2 x3 x4 x5 x6 x7 x8 x9 x10 x11) (k1_pay149 x0 x1 x2 x3 x4 x5 x6 x7 x8 x9 x10 x11) (k1_pay150 x0 x1 x2 x3 x4 x5 x6 x7 x8 x9 x10 x11) (k1_pay151 x0 x1 x2 x3 x4 x5 x6 x7 x8 x9 x10 x11) (k1_pay152 x0 x1 x2 x3 x4 x5 x6 x7 x8 x9 x10 x11) = _
    rw [f10, f11, f12, h2]; exact (stage2 (k1_pay142 x0 x1 x2 x3 x4 x5 x6 x7 x8 x9 x10 x11) p1).2.2.2
  obtain ⟨p3, h3⟩ : ∃ p : Col × Col, p = ((bstep (k1_pay142 x0 x1 x2 x3 x4 x5 x6 x7 x8 x9 x10 x11))^[3] p2) := ⟨_, rfl⟩
  have f30 : k1_pay158 x0 x1 x2 x3 x4 x5 x6 x7 x8 x9 x10 x11 = p3.1 := by
    show k1_pay57 (k1_pay142 x0 x1 x2 x3 x4 x5 x6 x7 x8 x9 x10 x11) (k1_pay143 x0 x1 x2 x3 x4 x5 x6 x7 x8 x9 x10 x11) (k1_pay153 x0 x1 x2 x3 x4 x5 x6 x7 x8 x9 x10 x11) (k1_pay154 x0 x1 x2 x3 x4 x5 x6 x7 x8 x9 x10 x11) (k1_pay155 x0 x1 x2 x3 x4 x5 x6 x7 x8 x9 x10 x11) (k1_pay156 x0 x1 x2 x3 x4 x5 x6 x7 x8 x9 x10 x11) (Scalar.ofBits .f32 0x00000000#32) (k1_pay157 x0 x1 x2 x3 x4 x5 x6 x7 x8 x9 x10 x11) = _
    rw [f20, f21, f22, f23, h3]; exact (stage3 (k1_pay142 x0 x1 x2 x3 x4 x5 x6 x7 x8 x9 x10 x11) p2).1
  have f31 : k1_pay159 x0 x1 x2 x3 x4 x5 x6 x7 x8 x9 x10 x11 = p3.2 := by
    show k1_pay58 (k1_pay142 x0 x1 x2 x3 x4 x5 x6 x7 x8 x9 x10 x11) (k1_pay143 x0 x1 x2 x3 x4 x5 x6 x7 x8 x9 x10 x11) (k1_pay153 x0 x1 x2 x3 x4 x5 x6 x7 x8 x9 x10 x11) (k1_pay154 x0 x1 x2 x3 x4 x5 x6 x7 x8 x9 x10 x11) (k1_pay155 x0 x1 x2 x3 x4 x5 x6 x7 x8 x9 x10 x11) (k1_pay156 x0 x1 x2 x3 x4 x5 x6 x7 x8 x9 x10 x11) (Scalar.ofBits .f32 0x00000000#32) (k1_pay157 x0 x1 x2 x3 x4 x5 x6 x7 x8 x9 x10 x11) = _
    rw [f20, f21, f22, f23, h3]; exact (stage3 (k1_pay142 x0 x1 x2 x3 x4 x5 x6 x7 x8 x9 x10 x11) p2).2.1
  have f32 : k1_pay160 x0 x1 x2 x3 x4 x5 x6 x7 x8 x9 x10 x11 = bmid p3 := by
    show k1_pay59 (k1_pay142 x0 x1 x2 x3 x4 x5 x6 x7 x8 x9 x10 x11) (k1_pay143 x0 x1 x2 x3 x4 x5 x6 x7 x8 x9 x10 x11) (k1_pay153 x0 x1 x2 x3 x4 x5 x6 x7 x8 x9 x10 x11) (k1_pay154 x0 x1 x2 x3 x4 x5 x6 x7 x8 x9 x10 x11) (k1_pay155 x0 x1 x2 x3 x4 x5 x6 x7 x8 x9 x10 x11) (k1_pay156 x0 x1 x2 x3 x4 x5 x6 x7 x8 x9 x10 x11) (Scalar.ofBits .f32 0x00000000#32) (k1_pay157 x0 x1 x2 x3 x4 x5 x6 x7 x8 x9 x10 x11) = _
    rw [f20, f21, f22, f23, h3]; exact (stage3 (k1_pay142 x0 x1 x2 x3 x4 x5 x6 x7 x8 x9 x10 x11) p2).2.2.1
  have f33 : k1_pay161 x0 x1 x2 x3 x4 x5 x6 x7 x8 x9 x10 x11 = count (k1_pay142 x0 x1 x2 x3 x4 x5 x6 x7 x8 x9 x10 x11) (bmid p3) := by
    show k1_pay60 (k1_pay142 x0 x1 x2 x3 x4 x5 x6 x7 x8 x9 x10 x11) (k1_pay143 x0 x1 x2 x3 x4 x5 x6 x7 x8 x9 x10 x11) (k1_pay153 x0 x1 x2 x3 x4 x5 x6 x7 x8 x9 x10 x11) (k1_pay154 x0 x1 x2 x3 x4 x5 x6 x7 x8 x9 x10 x11) (k1_pay155 x0 x1 x2 x3 x4 x5 x6 x7 x8 x9 x10 x11) (k1_pay156 x0 x1 x2 x3 x4 x5 x6 x7 x8 x9 x10 x11) (Scalar.ofBits .f32 0x00000000#32) (k1_pay157 x0 x1 x2 x3 x4 x5 x6 x7 x8 x9 x10 x11) = _
    rw [f20, f21, f22, f23, h3]; exact (stage3 (k1_pay142 x0 x1 x2 x3 x4 x5 x6 x7 x8 x9 x10 x11) p2).2.2.2
  obtain ⟨p4, h4⟩ : ∃ p : Col × Col, p = ((bstep (k1_pay142 x0 x1 x2 x3 x4 x5 x6 x7 x8 x9 x10 x11))^[4] p3) := ⟨_, rfl⟩
  have f40 : k1_pay163 x0 x1 x2 x3 x4 x5 x6 x7 x8 x9 x10 x11 = p4.1 := by
    show k1_pay75 (k1_pay142 x0 x1 x2 x3 x4 x5 x6 x7 x8 x9 x10 x11) (k1_pay143 x0 x1 x2 x3 x4 x5 x6 x7 x8 x9 x10 x11) (k1_pay158 x0 x1 x2 x3 x4 x5 x6 x7 x8 x9 x10 x11) (k1_pay159 x0 x1 x2 x3 x4 x5 x6 x7 x8 x9 x10 x11) (k1_pay160 x0 x1 x2 x3 x4 x5 x6 x7 x8 x9 x10 x11) (k1_pay161 x0 x1 x2 x3 x4 x5 x6 x7 x8 x9 x10 x11) (k1_pay162 x0 x1 x2 x3 x4 x5 x6 x7 x8 x9 x10 x11) = _
    rw [f30, f31, f32, f33, h4]; exact (stage4 (k1_pay142 x0 x1 x2 x3 x4 x5 x6 x7 x8 x9 x10 x11) p3).1
  have f41 : k1_pay164 x0 x1 x2 x3 x4 x5 x6 x7 x8 x9 x10 x11 = p4.2 := by
    show k1_pay76 (k1_pay142 x0 x1 x2 x3 x4 x5 x6 x7 x8 x9 x10 x11) (k1_pay143 x0 x1 x2 x3 x4 x5 x6 x7 x8 x9 x10 x11) (k1_pay158 x0 x1 x2 x3 x4 x5 x6 x7 x8 x9 x10 x11) (k1_pay159 x0 x1 x2 x3 x4 x5 x6 x7 x8 x9 x10 x11) (k1_pay160 x0 x1 x2 x3 x4 x5 x6 x7 x8 x9 x10 x11) (k1_pay161 x0 x1 x2 x3 x4 x5 x6 x7 x8 x9 x10 x11) (k1_pay162 x0 x1 x2 x3 x4 x5 x6 x7 x8 x9 x10 x11) = _
    rw [f30, f31, f32, f33, h4]; exact (stage4 (k1_pay142 x0 x1 x2 x3 x4 x5 x6 x7 x8 x9 x10 x11) p3).2.1
  have f42 : k1_pay165 x0 x1 x2 x3 x4 x5 x6 x7 x8 x9 x10 x11 = addf p4.1 p4.2 := by
    show k1_pay77 (k1_pay142 x0 x1 x2 x3 x4 x5 x6 x7 x8 x9 x10 x11) (k1_pay143 x0 x1 x2 x3 x4 x5 x6 x7 x8 x9 x10 x11) (k1_pay158 x0 x1 x2 x3 x4 x5 x6 x7 x8 x9 x10 x11) (k1_pay159 x0 x1 x2 x3 x4 x5 x6 x7 x8 x9 x10 x11) (k1_pay160 x0 x1 x2 x3 x4 x5 x6 x7 x8 x9 x10 x11) (k1_pay161 x0 x1 x2 x3 x4 x5 x6 x7 x8 x9 x10 x11) (k1_pay162 x0 x1 x2 x3 x4 x5 x6 x7 x8 x9 x10 x11) = _
    rw [f30, f31, f32, f33, h4]; exact (stage4 (k1_pay142 x0 x1 x2 x3 x4 x5 x6 x7 x8 x9 x10 x11) p3).2.2
  obtain ⟨p5, h5⟩ : ∃ p : Col × Col, p = ((bstep (k1_pay142 x0 x1 x2 x3 x4 x5 x6 x7 x8 x9 x10 x11))^[3] p4) := ⟨_, rfl⟩
  have f50 : k1_pay167 x0 x1 x2 x3 x4 x5 x6 x7 x8 x9 x10 x11 = p5.1 := by
    show k1_pay89 (k1_pay142 x0 x1 x2 x3 x4 x5 x6 x7 x8 x9 x10 x11) (k1_pay143 x0 x1 x2 x3 x4 x5 x6 x7 x8 x9 x10 x11) (k1_pay163 x0 x1 x2 x3 x4 x5 x6 x7 x8 x9 x10 x11) (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11) = _
    rw [f40, f41, f42, h5]; exact (stage5 (k1_pay142 x0 x1 x2 x3 x4 x5 x6 x7 x8 x9 x10 x11) p4).1
  have f51 : k1_pay168 x0 x1 x2 x3 x4 x5 x6 x7 x8 x9 x10 x11 = p5.2 := by
    show k1_pay90 (k1_pay142 x0 x1 x2 x3 x4 x5 x6 x7 x8 x9 x10 x11) (k1_pay143 x0 x1 x2 x3 x4 x5 x6 x7 x8 x9 x10 x11) (k1_pay163 x0 x1 x2 x3 x4 x5 x6 x7 x8 x9 x10 x11) (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11) = _
    rw [f40, f41, f42, h5]; exact (stage5 (k1_pay142 x0 x1 x2 x3 x4 x5 x6 x7 x8 x9 x10 x11) p4).2.1
  have f52 : k1_pay169 x0 x1 x2 x3 x4 x5 x6 x7 x8 x9 x10 x11 = bmid p5 := by
    show k1_pay91 (k1_pay142 x0 x1 x2 x3 x4 x5 x6 x7 x8 x9 x10 x11) (k1_pay143 x0 x1 x2 x3 x4 x5 x6 x7 x8 x9 x10 x11) (k1_pay163 x0 x1 x2 x3 x4 x5 x6 x7 x8 x9 x10 x11) (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11) = _
    rw [f40, f41, f42, h5]; exact (stage5 (k1_pay142 x0 x1 x2 x3 x4 x5 x6 x7 x8 x9 x10 x11) p4).2.2.1
  have f53 : k1_pay170 x0 x1 x2 x3 x4 x5 x6 x7 x8 x9 x10 x11 = below (k1_pay142 x0 x1 x2 x3 x4 x5 x6 x7 x8 x9 x10 x11) (bmid p5) := by
    show k1_pay92 (k1_pay142 x0 x1 x2 x3 x4 x5 x6 x7 x8 x9 x10 x11) (k1_pay143 x0 x1 x2 x3 x4 x5 x6 x7 x8 x9 x10 x11) (k1_pay163 x0 x1 x2 x3 x4 x5 x6 x7 x8 x9 x10 x11) (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11) = _
    rw [f40, f41, f42, h5]; exact (stage5 (k1_pay142 x0 x1 x2 x3 x4 x5 x6 x7 x8 x9 x10 x11) p4).2.2.2
  obtain ⟨p6, h6⟩ : ∃ p : Col × Col, p = ((bstep (k1_pay142 x0 x1 x2 x3 x4 x5 x6 x7 x8 x9 x10 x11))^[3] p5) := ⟨_, rfl⟩
  have f60 : k1_pay172 x0 x1 x2 x3 x4 x5 x6 x7 x8 x9 x10 x11 = p6.1 := by
    show k1_pay103 (k1_pay142 x0 x1 x2 x3 x4 x5 x6 x7 x8 x9 x10 x11) (k1_pay143 x0 x1 x2 x3 x4 x5 x6 x7 x8 x9 x10 x11) (k1_pay167 x0 x1 x2 x3 x4 x5 x6 x7 x8 x9 x10 x11) (k1_pay168 x0 x1 x2 x3 x4 x5 x6 x7 x8 x9 x10 x11) (k1_pay169 x0 x1 x2 x3 x4 x5 x6 x7 x8 x9 x10 x11) (k1_pay170 x0 x1 x2 x3 x4 x5 x6 x7 x8 x9 x10 x11) (Scalar.ofBits .f32 0x00000000#32) (k1_pay171 x0 x1 x2 x3 x4 x5 x6 x7 x8 x9 x10 x11) = _
    rw [f50, f51, f52, f53, h6]; exact (stage6 (k1_pay142 x0 x1 x2 x3 x4 x5 x6 x7 x8 x9 x10 x11) p5).1
  have f61 : k1_pay173 x0 x1 x2 x3 x4 x5 x6 x7 x8 x9 x10 x11 = p6.2 := by
    show k1_pay104 (k1_pay142 x0 x1 x2 x3 x4 x5 x6 x7 x8 x9 x10 x11) (k1_pay143 x0 x1 x2 x3 x4 x5 x6 x7 x8 x9 x10 x11) (k1_pay167 x0 x1 x2 x3 x4 x5 x6 x7 x8 x9 x10 x11) (k1_pay168 x0 x1 x2 x3 x4 x5 x6 x7 x8 x9 x10 x11) (k1_pay169 x0 x1 x2 x3 x4 x5 x6 x7 x8 x9 x10 x11) (k1_pay170 x0 x1 x2 x3 x4 x5 x6 x7 x8 x9 x10 x11) (Scalar.ofBits .f32 0x00000000#32) (k1_pay171 x0 x1 x2 x3 x4 x5 x6 x7 x8 x9 x10 x11) = _
    rw [f50, f51, f52, f53, h6]; exact (stage6 (k1_pay142 x0 x1 x2 x3 x4 x5 x6 x7 x8 x9 x10 x11) p5).2.1
  have f62 : k1_pay174 x0 x1 x2 x3 x4 x5 x6 x7 x8 x9 x10 x11 = bmid p6 := by
    show k1_pay105 (k1_pay142 x0 x1 x2 x3 x4 x5 x6 x7 x8 x9 x10 x11) (k1_pay143 x0 x1 x2 x3 x4 x5 x6 x7 x8 x9 x10 x11) (k1_pay167 x0 x1 x2 x3 x4 x5 x6 x7 x8 x9 x10 x11) (k1_pay168 x0 x1 x2 x3 x4 x5 x6 x7 x8 x9 x10 x11) (k1_pay169 x0 x1 x2 x3 x4 x5 x6 x7 x8 x9 x10 x11) (k1_pay170 x0 x1 x2 x3 x4 x5 x6 x7 x8 x9 x10 x11) (Scalar.ofBits .f32 0x00000000#32) (k1_pay171 x0 x1 x2 x3 x4 x5 x6 x7 x8 x9 x10 x11) = _
    rw [f50, f51, f52, f53, h6]; exact (stage6 (k1_pay142 x0 x1 x2 x3 x4 x5 x6 x7 x8 x9 x10 x11) p5).2.2.1
  have f63 : k1_pay175 x0 x1 x2 x3 x4 x5 x6 x7 x8 x9 x10 x11 = count (k1_pay142 x0 x1 x2 x3 x4 x5 x6 x7 x8 x9 x10 x11) (bmid p6) := by
    show k1_pay106 (k1_pay142 x0 x1 x2 x3 x4 x5 x6 x7 x8 x9 x10 x11) (k1_pay143 x0 x1 x2 x3 x4 x5 x6 x7 x8 x9 x10 x11) (k1_pay167 x0 x1 x2 x3 x4 x5 x6 x7 x8 x9 x10 x11) (k1_pay168 x0 x1 x2 x3 x4 x5 x6 x7 x8 x9 x10 x11) (k1_pay169 x0 x1 x2 x3 x4 x5 x6 x7 x8 x9 x10 x11) (k1_pay170 x0 x1 x2 x3 x4 x5 x6 x7 x8 x9 x10 x11) (Scalar.ofBits .f32 0x00000000#32) (k1_pay171 x0 x1 x2 x3 x4 x5 x6 x7 x8 x9 x10 x11) = _
    rw [f50, f51, f52, f53, h6]; exact (stage6 (k1_pay142 x0 x1 x2 x3 x4 x5 x6 x7 x8 x9 x10 x11) p5).2.2.2
  show k1_pay108 (k1_pay142 x0 x1 x2 x3 x4 x5 x6 x7 x8 x9 x10 x11) (k1_pay143 x0 x1 x2 x3 x4 x5 x6 x7 x8 x9 x10 x11) (k1_pay172 x0 x1 x2 x3 x4 x5 x6 x7 x8 x9 x10 x11) (k1_pay173 x0 x1 x2 x3 x4 x5 x6 x7 x8 x9 x10 x11) (k1_pay174 x0 x1 x2 x3 x4 x5 x6 x7 x8 x9 x10 x11) (k1_pay175 x0 x1 x2 x3 x4 x5 x6 x7 x8 x9 x10 x11) (k1_pay176 x0 x1 x2 x3 x4 x5 x6 x7 x8 x9 x10 x11) = _
  rw [f60, f61, f62, f63]
  refine (stage7 (k1_pay142 x0 x1 x2 x3 x4 x5 x6 x7 x8 x9 x10 x11) p6).trans ?_
  rw [h6, h5, h4, h3, h2, h1]
  simp only [← Function.iterate_add_apply]

/-- The constant one half. -/
theorem half_eq : Ideal.ofBits .f32 0x3F000000#32 = ((1 / 2 : ℝ) : EReal) := by
  simp [Ideal.ofBits, Ideal.ieee, -EReal.coe_mul]; norm_num

/-- The constant 66. -/
theorem sixtySix_eq : Ideal.ofBits .f32 0x42840000#32 = ((66 : ℝ) : EReal) := by
  simp [Ideal.ofBits, Ideal.ieee, -EReal.coe_mul]; norm_num

/-- One halving read at a row. -/
theorem bstep_row (D : Stack) (p : Col × Col) (r : Fin 1760) :
    ((bstep D p).1 (ix2 r 0), (bstep D p).2 (ix2 r 0))
      = Knn.halve (fun j => D (ix2 r j)) ((66 : ℝ) : EReal) (p.1 (ix2 r 0), p.2 (ix2 r 0)) := by
  have hm : bmid p (ix2 r 0) = Knn.middle (p.1 (ix2 r 0), p.2 (ix2 r 0)) := by
    pointwise [bmid]
    rw [half_eq]
    rfl
  have hc : count D (bmid p) (ix2 r 0) = Knn.countLe (fun j => D (ix2 r j)) (Knn.middle (p.1 (ix2 r 0), p.2 (ix2 r 0))) := by
    pointwise [count, below, k1_pay10]
    rw [hm]; rfl
  have h1 : (bstep D p).1 (ix2 r 0) = if ((66 : ℝ) : EReal) ≤ count D (bmid p) (ix2 r 0) then p.1 (ix2 r 0) else bmid p (ix2 r 0) := by
    pointwise [bstep, enough, k1_pay15]
    rw [sixtySix_eq]
  have h2 : (bstep D p).2 (ix2 r 0) = if ((66 : ℝ) : EReal) ≤ count D (bmid p) (ix2 r 0) then bmid p (ix2 r 0) else p.2 (ix2 r 0) := by
    pointwise [bstep, enough, k1_pay15]
    rw [sixtySix_eq]
  rw [h1, h2, hc, hm]; rfl

/-- All halvings read at a row. -/
theorem bsteps_row (D : Stack) (r : Fin 1760) (n : ℕ) (p : Col × Col) :
    (((bstep D)^[n] p).1 (ix2 r 0), ((bstep D)^[n] p).2 (ix2 r 0))
      = (Knn.halve (fun j => D (ix2 r j)) ((66 : ℝ) : EReal))^[n] (p.1 (ix2 r 0), p.2 (ix2 r 0)) := by
  induction n generalizing p with
  | zero => rfl
  | succ n ih => rw [Function.iterate_succ_apply, Function.iterate_succ_apply, ih, bstep_row]

/-- The column of thresholds at a row is the row's threshold. -/
theorem thresholds_row (D : Stack) (hi : Col) (r : Fin 1760) (h : hi (ix2 r 0) = Finset.univ.sup fun j => D (ix2 r j)) :
    ((bstep D)^[22] (k1_pay11 (F := Ideal), hi)).2 (ix2 r 0) = Knn.threshold (fun j => D (ix2 r j)) ((66 : ℝ) : EReal) 22 := by
  have h0 : k1_pay11 (F := Ideal) (ix2 r 0) = (0 : EReal) := by
    pointwise [k1_pay11]
  have := congrArg Prod.snd (bsteps_row D r 22 (k1_pay11 (F := Ideal), hi))
  simp only [h0, h] at this
  exact this

end Cert.KernelIdeal.Out

end
-- ==== Proof.Sums.lean ====
/- The first kernel: a block of its output holds, per head, the sum of the distances of one batch entry. -/
module

public import proofs.«01_k».proof.Proof.Gen.KernelIdeal.Frame
public import proofs.«01_k».proof.Proof.Spec
public import Idealize.ShloMosaic.Lib.Pointwise
public import Idealize.ShloMosaic.Lib.Pipeline.Value

@[expose] public section

set_option maxRecDepth 16384

noncomputable section

namespace Cert.KernelIdeal.Out

open Idealize.ShloMosaic
open Cert.KernelIdeal.Gen

/-- One head's sum of distances, from the batch entry's block and the head's projection. -/
theorem k0_pay3_apply (v0 : Vec Ideal S1x440x128 .f32) (v2 : Vec Ideal S1x128x32 .f32) (a b : Fin 1) :
    k0_pay3 (F := Ideal) v0 v2 (ix2 a b)
      = ∑ i : Fin 440, ∑ j : Fin 440, Knn.dist (Knn.project (fun i d => v0 (ix3 0 i d)) fun d k => v2 (ix3 0 d k)) i j := by
  pointwise [k0_pay3, k0_pay2]
  rfl

/-- The second head's sum of distances. -/
theorem k0_pay6_apply (v0 : Vec Ideal S1x440x128 .f32) (v2 : Vec Ideal S1x128x32 .f32) (a b : Fin 1) :
    k0_pay6 (k0_pay4 (F := Ideal) v0 v2) (k0_pay5 (F := Ideal)) (ix2 a b)
      = ∑ i : Fin 440, ∑ j : Fin 440, Knn.dist (Knn.project (fun i d => v0 (ix3 0 i d)) fun d k => v2 (ix3 0 d k)) i j := by
  pointwise [k0_pay6, k0_pay4, k0_pay5, k0_pay2]
  rfl

/-- The third head's sum of distances. -/
theorem k0_pay7_apply (v0 : Vec Ideal S1x440x128 .f32) (v2 : Vec Ideal S1x128x32 .f32) (a b : Fin 1) :
    k0_pay7 (F := Ideal) (k0_pay2 v0) v2 (ix2 a b)
      = ∑ i : Fin 440, ∑ j : Fin 440, Knn.dist (Knn.project (fun i d => v0 (ix3 0 i d)) fun d k => v2 (ix3 0 d k)) i j := by
  pointwise [k0_pay7, k0_pay2]
  rfl

/-- The fourth head's squared distances. -/
theorem k0_pay8_apply (v0 : Vec Ideal S1x440x128 .f32) (v2 : Vec Ideal S1x128x32 .f32) (i j : Fin 440) :
    k0_pay8 (F := Ideal) (k0_pay2 v0) v2 (ix2 i j)
      = Knn.sqDist (Knn.project (fun i d => v0 (ix3 0 i d)) fun d k => v2 (ix3 0 d k)) i j := by
  pointwise [k0_pay8, k0_pay2]
  rfl

/-- Lane 0 of the stored row is head 0's sum. -/
theorem k0_pay1_lane0 (v23 v45 v67 : Vec Ideal S1x1 .f32) (v81 : Vec Ideal S440x440 .f32) (a b : Fin 1) :
    k0_pay1 (F := Ideal) v23 v45 v67 v81 (ix3 a b 0) = v23 (ix2 0 0) := by
  pointwise [k0_pay1]

/-- Lane 1 of the stored row is head 1's sum. -/
theorem k0_pay1_lane1 (v23 v45 v67 : Vec Ideal S1x1 .f32) (v81 : Vec Ideal S440x440 .f32) (a b : Fin 1) :
    k0_pay1 (F := Ideal) v23 v45 v67 v81 (ix3 a b 1) = v45 (ix2 0 0) := by
  pointwise [k0_pay1]

/-- Lane 2 of the stored row is head 2's sum. -/
theorem k0_pay1_lane2 (v23 v45 v67 : Vec Ideal S1x1 .f32) (v81 : Vec Ideal S440x440 .f32) (a b : Fin 1) :
    k0_pay1 (F := Ideal) v23 v45 v67 v81 (ix3 a b 2) = v67 (ix2 0 0) := by
  pointwise [k0_pay1]

/-- Lane 3 of the stored row is head 3's sum. -/
theorem k0_pay1_lane3 (v23 v45 v67 : Vec Ideal S1x1 .f32) (v81 : Vec Ideal S440x440 .f32) (a b : Fin 1) :
    k0_pay1 (F := Ideal) v23 v45 v67 v81 (ix3 a b 3) = ∑ i : Fin 440, ∑ j : Fin 440, Ideal.sqrt (max (v81 (ix2 i j)) Knn.eps) := by
  pointwise [k0_pay1]
  rfl

theorem hz3 : (![0, 0, 0] : Fin 3 → Nat) = fun _ => 0 := funext fun a => by fin_cases a <;> rfl

theorem hz2 : (![0, 0] : Fin 2 → Nat) = fun _ => 0 := funext fun a => by fin_cases a <;> rfl

/-- The load of head 0's projection reads plane 0 of the projections. -/
theorem ld_head0 (x1 : Vec Ideal S4x128x32 .f32) (d : Fin 128) (k : Fin 32) :
    View.ld x1 r0_1 (ix3 0 d k) = x1 (ix3 0 d k) := by
  show x1 (r0_1.emb (ix3 0 d k)) = _
  congr 1; funext a; apply Fin.ext
  match a with
  | ⟨0, _⟩ => rfl
  | ⟨1, _⟩ => show 0 + 1 * d.val = d.val; omega
  | ⟨2, _⟩ => show 0 + 1 * k.val = k.val; omega

/-- The load of head 1's projection reads plane 1 of the projections. -/
theorem ld_head1 (x1 : Vec Ideal S4x128x32 .f32) (d : Fin 128) (k : Fin 32) :
    View.ld x1 r0_2 (ix3 0 d k) = x1 (ix3 1 d k) := by
  show x1 (r0_2.emb (ix3 0 d k)) = _
  congr 1; funext a; apply Fin.ext
  match a with
  | ⟨0, _⟩ => rfl
  | ⟨1, _⟩ => show 0 + 1 * d.val = d.val; omega
  | ⟨2, _⟩ => show 0 + 1 * k.val = k.val; omega

/-- The load of head 2's projection reads plane 2 of the projections. -/
theorem ld_head2 (x1 : Vec Ideal S4x128x32 .f32) (d : Fin 128) (k : Fin 32) :
    View.ld x1 r0_3 (ix3 0 d k) = x1 (ix3 2 d k) := by
  show x1 (r0_3.emb (ix3 0 d k)) = _
  congr 1; funext a; apply Fin.ext
  match a with
  | ⟨0, _⟩ => rfl
  | ⟨1, _⟩ => show 0 + 1 * d.val = d.val; omega
  | ⟨2, _⟩ => show 0 + 1 * k.val = k.val; omega

/-- The load of head 3's projection reads plane 3 of the projections. -/
theorem ld_head3 (x1 : Vec Ideal S4x128x32 .f32) (d : Fin 128) (k : Fin 32) :
    View.ld x1 r0_4 (ix3 0 d k) = x1 (ix3 3 d k) := by
  show x1 (r0_4.emb (ix3 0 d k)) = _
  congr 1; funext a; apply Fin.ext
  match a with
  | ⟨0, _⟩ => rfl
  | ⟨1, _⟩ => show 0 + 1 * d.val = d.val; omega
  | ⟨2, _⟩ => show 0 + 1 * k.val = k.val; omega

/-- What one point of the first kernel leaves at lane 0: head 0's sum of distances of the point's batch entry. -/
theorem out0_2_lane0 (x0 : Vec Ideal S1x440x128 .f32) (x1 : Vec Ideal S4x128x32 .f32) :
    out0_2 x0 x1 (ix3 0 0 0)
      = ∑ i : Fin 440, ∑ j : Fin 440, Knn.dist (Knn.project (fun i d => x0 (ix3 0 i d)) fun d k => x1 (ix3 0 d k)) i j := by
  have e : (fun d k => View.ld x1 r0_1 (ix3 0 d k)) = fun d k => x1 (ix3 0 d k) := by
    funext d k; exact ld_head0 x1 d k
  unfold out0_2 k0_pay9
  rw [View.canon_unit_zero hz3, View.ld_unit_zero hz3, k0_pay1_lane0]
  exact (k0_pay3_apply _ _ 0 0).trans (by rw [← e])

/-- What one point of the first kernel leaves at lane 1: head 1's sum of distances of the point's batch entry. -/
theorem out0_2_lane1 (x0 : Vec Ideal S1x440x128 .f32) (x1 : Vec Ideal S4x128x32 .f32) :
    out0_2 x0 x1 (ix3 0 0 1)
      = ∑ i : Fin 440, ∑ j : Fin 440, Knn.dist (Knn.project (fun i d => x0 (ix3 0 i d)) fun d k => x1 (ix3 1 d k)) i j := by
  have e : (fun d k => View.ld x1 r0_2 (ix3 0 d k)) = fun d k => x1 (ix3 1 d k) := by
    funext d k; exact ld_head1 x1 d k
  unfold out0_2 k0_pay9
  rw [View.canon_unit_zero hz3, View.ld_unit_zero hz3, k0_pay1_lane1]
  exact (k0_pay6_apply _ _ 0 0).trans (by rw [← e])

/-- What one point of the first kernel leaves at lane 2: head 2's sum of distances of the point's batch entry. -/
theorem out0_2_lane2 (x0 : Vec Ideal S1x440x128 .f32) (x1 : Vec Ideal S4x128x32 .f32) :
    out0_2 x0 x1 (ix3 0 0 2)
      = ∑ i : Fin 440, ∑ j : Fin 440, Knn.dist (Knn.project (fun i d => x0 (ix3 0 i d)) fun d k => x1 (ix3 2 d k)) i j := by
  have e : (fun d k => View.ld x1 r0_3 (ix3 0 d k)) = fun d k => x1 (ix3 2 d k) := by
    funext d k; exact ld_head2 x1 d k
  unfold out0_2 k0_pay9
  rw [View.canon_unit_zero hz3, View.ld_unit_zero hz3, k0_pay1_lane2]
  exact (k0_pay7_apply _ _ 0 0).trans (by rw [← e])

/-- What one point of the first kernel leaves at lane 3: head 3's sum of distances of the point's batch entry. -/
theorem out0_2_lane3 (x0 : Vec Ideal S1x440x128 .f32) (x1 : Vec Ideal S4x128x32 .f32) :
    out0_2 x0 x1 (ix3 0 0 3)
      = ∑ i : Fin 440, ∑ j : Fin 440, Knn.dist (Knn.project (fun i d => x0 (ix3 0 i d)) fun d k => x1 (ix3 3 d k)) i j := by
  have e : (fun d k => View.ld x1 r0_4 (ix3 0 d k)) = fun d k => x1 (ix3 3 d k) := by
    funext d k; exact ld_head3 x1 d k
  unfold out0_2 k0_pay9
  rw [View.canon_unit_zero hz3, View.ld_unit_zero hz3, k0_pay1_lane3]
  rw [← e]
  refine Finset.sum_congr rfl fun i _ => Finset.sum_congr rfl fun j _ => ?_
  rw [k0_pay8_apply]; rfl

/-- The array of sums as one function of the two arguments. -/
def sums (X : Vec Ideal S32x440x128 .f32) (W : Vec Ideal S4x128x32 .f32) : Vec Ideal S32x1x8 .f32 := fun i =>
  out0_2 (fun y => X (ix3 (i 0) (y 1) (y 2))) W (ix3 0 0 (i 2))

/-- Lane 0 of batch entry `b` is head 0's sum of distances. -/
theorem sums_lane0 (X : Vec Ideal S32x440x128 .f32) (W : Vec Ideal S4x128x32 .f32) (b : Fin 32) :
    sums X W (ix3 b 0 0)
      = ∑ i : Fin 440, ∑ j : Fin 440, Knn.dist (Knn.project (fun i d => X (ix3 b i d)) fun d k => W (ix3 0 d k)) i j :=
  out0_2_lane0 (fun y => X (ix3 b (y 1) (y 2))) W

/-- Lane 1 of batch entry `b` is head 1's sum of distances. -/
theorem sums_lane1 (X : Vec Ideal S32x440x128 .f32) (W : Vec Ideal S4x128x32 .f32) (b : Fin 32) :
    sums X W (ix3 b 0 1)
      = ∑ i : Fin 440, ∑ j : Fin 440, Knn.dist (Knn.project (fun i d => X (ix3 b i d)) fun d k => W (ix3 1 d k)) i j :=
  out0_2_lane1 (fun y => X (ix3 b (y 1) (y 2))) W

/-- Lane 2 of batch entry `b` is head 2's sum of distances. -/
theorem sums_lane2 (X : Vec Ideal S32x440x128 .f32) (W : Vec Ideal S4x128x32 .f32) (b : Fin 32) :
    sums X W (ix3 b 0 2)
      = ∑ i : Fin 440, ∑ j : Fin 440, Knn.dist (Knn.project (fun i d => X (ix3 b i d)) fun d k => W (ix3 2 d k)) i j :=
  out0_2_lane2 (fun y => X (ix3 b (y 1) (y 2))) W

/-- Lane 3 of batch entry `b` is head 3's sum of distances. -/
theorem sums_lane3 (X : Vec Ideal S32x440x128 .f32) (W : Vec Ideal S4x128x32 .f32) (b : Fin 32) :
    sums X W (ix3 b 0 3)
      = ∑ i : Fin 440, ∑ j : Fin 440, Knn.dist (Knn.project (fun i d => X (ix3 b i d)) fun d k => W (ix3 3 d k)) i j :=
  out0_2_lane3 (fun y => X (ix3 b (y 1) (y 2))) W

section Array
variable (V : (c : Dev nD) → (b : Ref sig .tc) → Buf (Elt Ideal) ((c.tc : Thread nD τ).loc b))

/-- The block indices of the three windows at a point. -/
theorem index0 : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- An index of the point's block of the first argument, in the array. -/
theorem emb0_0 (t : Fin cfg0.N) (j : S1x440x128.Idx) :
    ((cfg0.win 0).blk t).view.emb j = (ix3 (⟨t.val, t.isLt⟩ : Fin 32) (j 1) (j 2) : S32x440x128.Idx) := by
  obtain ⟨⟨e0, e1, e2⟩, -, -⟩ := index0 t
  have hj : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 440 + 1 * (j 1).val = (j 1).val; omega
  | ⟨2, _⟩ => show win0_0.index t (2 : Fin 3) * 128 + 1 * (j 2).val = (j 2).val; omega

/-- The block of the second argument is the whole of it. -/
theorem emb0_1 (t : Fin cfg0.N) (j : S4x128x32.Idx) : ((cfg0.win 1).blk t).view.emb j = j := by
  obtain ⟨-, ⟨e0, e1, e2⟩, -⟩ := index0 t
  funext a; apply Fin.ext
  match a with
  | ⟨0, _⟩ => show win0_1.index t (0 : Fin 3) * 4 + 1 * (j 0).val = (j 0).val; omega
  | ⟨1, _⟩ => show win0_1.index t (1 : Fin 3) * 128 + 1 * (j 1).val = (j 1).val; omega
  | ⟨2, _⟩ => show win0_1.index t (2 : Fin 3) * 32 + 1 * (j 2).val = (j 2).val; omega

/-- An index of the point's block of the sums, in the array. -/
theorem emb0_2 (t : Fin cfg0.N) (j : S1x1x8.Idx) :
    ((cfg0.win 2).blk t).view.emb j = (ix3 (⟨t.val, t.isLt⟩ : Fin 32) 0 (j 2) : S32x1x8.Idx) := by
  obtain ⟨-, -, e0, e1, e2⟩ := index0 t
  have hj : (j 0).val < 1 := (j 0).isLt
  have hj1 : (j 1).val < 1 := (j 1).isLt
  funext a; apply Fin.ext
  match a with
  | ⟨0, _⟩ => show win0_2.index t (0 : Fin 3) * 1 + 1 * (j 0).val = t.val; omega
  | ⟨1, _⟩ => show win0_2.index t (1 : Fin 3) * 1 + 1 * (j 1).val = 0; omega
  | ⟨2, _⟩ => show win0_2.index t (2 : Fin 3) * 8 + 1 * (j 2).val = (j 2).val; omega

/-- The block of the first argument at a point. -/
theorem iblk0_0 (c : Dev nD) (t : Fin cfg0.N) :
    iblk0 V c 0 t = fun y : S1x440x128.Idx => V c main_arg0 (ix3 (⟨t.val, t.isLt⟩ : Fin 32) (y 1) (y 2) : S32x440x128.Idx) := by
  funext j; show V c main_arg0 (((cfg0.win 0).blk t).view.emb j) = _; rw [emb0_0]

/-- The block of the second argument at a point. -/
theorem iblk0_1 (c : Dev nD) (t : Fin cfg0.N) : iblk0 V c 1 t = V c main_arg1 := by
  funext j; show V c main_arg1 (((cfg0.win 1).blk t).view.emb j) = _; rw [emb0_1]

/-- What a point writes back is its block of the array of sums. -/
theorem flushed0 (c : Dev nD) (t : Fin cfg0.N) :
    (dat0 V c).flushed 2 t = ((cfg0.win 2).blk t).view.read (Elt Ideal) (sums (V c main_arg0) (V c main_arg1)) := by
  funext j
  show (dat0 V c).after 2 t j = sums (V c main_arg0) (V c main_arg1) (((cfg0.win 2).blk t).view.emb j)
  rw [emb0_2, after0_2, iblk0_0, iblk0_1]
  show out0_2 _ _ j = out0_2 _ _ (ix3 0 0 (j 2))
  congr 1
  have hj : (j 0).val < 1 := (j 0).isLt
  have hj1 : (j 1).val < 1 := (j 1).isLt
  funext a; apply Fin.ext
  match a with
  | ⟨0, _⟩ => show (j 0).val = 0; omega
  | ⟨1, _⟩ => show (j 1).val = 0; omega
  | ⟨2, _⟩ => rfl

/-- Every entry of the sums is in some point's block. -/
theorem covered0 (i : S32x1x8.Idx) : ∃ t : Fin cfg0.N, (cfg0.win 2).flush t = true ∧ i ∈ ((cfg0.win 2).blk t).view.set := by
  refine ⟨⟨(i 0).val, (i 0).isLt⟩, flush0_2 _, ?_⟩
  have h := ((cfg0.win 2).blk (⟨(i 0).val, (i 0).isLt⟩ : Fin cfg0.N)).view.emb_mem_set (ix3 0 0 (i 2) : S1x1x8.Idx)
  rw [emb0_2] at h
  have hi1 : (i 1).val < 1 := (i 1).isLt
  have e : i = (ix3 (⟨(i 0).val, (i 0).isLt⟩ : Fin 32) 0 (i 2) : S32x1x8.Idx) := by
    funext a; apply Fin.ext
    match a with
    | ⟨0, _⟩ => rfl
    | ⟨1, _⟩ => show (i 1).val = 0; omega
    | ⟨2, _⟩ => rfl
  rw [e]; exact h

/-- The first kernel's result array: the sums of the distances. -/
theorem sums_final (c : Dev nD) : (dat0 V c).arrAt 2 cfg0.N = sums (V c main_arg0) (V c main_arg1) :=
  (dat0 V c).arrAt_eq_of_cover 2 (sums (V c main_arg0) (V c main_arg1)) (fun t _ => flushed0 V c t) covered0

end Array

end Cert.KernelIdeal.Out

end
-- ==== Proof.Block.lean ====
/- The second kernel: a block of its output as one function of the blocks it reads. -/
module

public import proofs.«01_k».proof.Proof.Steps
public import proofs.«01_k».proof.Proof.Sums

@[expose] public section

set_option maxRecDepth 16384

noncomputable section

namespace Cert.KernelIdeal.Out

open Idealize.ShloMosaic
open Cert.KernelIdeal.Gen

/-- The first head's squared distances in the second kernel. -/
theorem k1_pay4_apply (v0 : Vec Ideal S1x440x128 .f32) (v2 : Vec Ideal S1x128x32 .f32) (i j : Fin 440) :
    k1_pay4 (F := Ideal) v0 v2 (ix2 i j)
      = Knn.sqDist (Knn.project (fun i d => v0 (ix3 0 i d)) fun d k => v2 (ix3 0 d k)) i j := by
  pointwise [k1_pay4, k1_pay2]
  rfl

/-- The second head's. -/
theorem k1_pay5_apply (v0 : Vec Ideal S1x440x128 .f32) (v2 : Vec Ideal S1x128x32 .f32) (i j : Fin 440) :
    k1_pay5 (F := Ideal) v0 v2 (ix2 i j)
      = Knn.sqDist (Knn.project (fun i d => v0 (ix3 0 i d)) fun d k => v2 (ix3 0 d k)) i j := by
  pointwise [k1_pay5, k1_pay2]
  rfl

/-- The third head's. -/
theorem k1_pay7_apply (v0 : Vec Ideal S1x440x128 .f32) (v2 : Vec Ideal S1x128x32 .f32) (i j : Fin 440) :
    k1_pay7 (F := Ideal) (k1_pay2 v0) (k1_pay6 v2) (ix2 i j)
      = Knn.sqDist (Knn.project (fun i d => v0 (ix3 0 i d)) fun d k => v2 (ix3 0 d k)) i j := by
  pointwise [k1_pay7, k1_pay6, k1_pay2]
  rfl

/-- The fourth head's. -/
theorem k1_pay8_apply (v0 : Vec Ideal S1x440x128 .f32) (v2 : Vec Ideal S1x128x32 .f32) (i j : Fin 440) :
    k1_pay8 (F := Ideal) (k1_pay2 v0) v2 (ix2 i j)
      = Knn.sqDist (Knn.project (fun i d => v0 (ix3 0 i d)) fun d k => v2 (ix3 0 d k)) i j := by
  pointwise [k1_pay8, k1_pay2]
  rfl

/-- Head 0's rows of the stack. -/
theorem stack_head0 (v1 : FVec Ideal S440x128 .f32) (v18 v32 : FVec Ideal S440x440 .f32) (v34 : FVec Ideal S128x32 .f32)
    (v47 : Vec Ideal S1x128x32 .f32) (i j : Fin 440) :
    k1_pay9 (F := Ideal) v1 v18 v32 v34 v47 (ix2 (⟨i.val, by omega⟩ : Fin 1760) j) = v18 (ix2 i j) := by
  pointwise [k1_pay9]

/-- Head 1's rows of the stack. -/
theorem stack_head1 (v1 : FVec Ideal S440x128 .f32) (v18 v32 : FVec Ideal S440x440 .f32) (v34 : FVec Ideal S128x32 .f32)
    (v47 : Vec Ideal S1x128x32 .f32) (i j : Fin 440) :
    k1_pay9 (F := Ideal) v1 v18 v32 v34 v47 (ix2 (⟨440 + i.val, by omega⟩ : Fin 1760) j) = v32 (ix2 i j) := by
  pointwise [k1_pay9]

/-- Head 2's rows of the stack. -/
theorem stack_head2 (v1 : FVec Ideal S440x128 .f32) (v18 v32 : FVec Ideal S440x440 .f32) (v34 : FVec Ideal S128x32 .f32)
    (v47 : Vec Ideal S1x128x32 .f32) (i j : Fin 440) :
    k1_pay9 (F := Ideal) v1 v18 v32 v34 v47 (ix2 (⟨880 + i.val, by omega⟩ : Fin 1760) j) = (k1_pay7 v1 v34) (ix2 i j) := by
  pointwise [k1_pay9]
  rw [dif_neg (by omega), dif_neg (by omega), dif_pos (by omega)]
  congr 2; apply Fin.ext; show 880 + i.val - 440 - 440 = i.val; omega

/-- Head 3's rows of the stack. -/
theorem stack_head3 (v1 : FVec Ideal S440x128 .f32) (v18 v32 : FVec Ideal S440x440 .f32) (v34 : FVec Ideal S128x32 .f32)
    (v47 : Vec Ideal S1x128x32 .f32) (i j : Fin 440) :
    k1_pay9 (F := Ideal) v1 v18 v32 v34 v47 (ix2 (⟨1320 + i.val, by omega⟩ : Fin 1760) j) = (k1_pay8 v1 v47) (ix2 i j) := by
  pointwise [k1_pay9]
  rw [dif_neg (by omega), dif_neg (by omega), dif_neg (by omega)]
  congr 2; apply Fin.ext; show 1320 + i.val - 440 - 440 - 440 = i.val; omega

/-- The first upper bounds are the rows' largest entries. -/
theorem rowmax_apply (v1 : FVec Ideal S440x128 .f32) (v18 v32 : FVec Ideal S440x440 .f32) (v34 : FVec Ideal S128x32 .f32)
    (v47 : Vec Ideal S1x128x32 .f32) (r : Fin 1760) :
    k1_pay12 (F := Ideal) v1 v18 v32 v34 v47 (ix2 r 0) = Finset.univ.sup fun j => k1_pay9 v1 v18 v32 v34 v47 (ix2 r j) := by
  pointwise [k1_pay12]
  have e : Ideal.ofBits .f32 0xFF800000#32 = (⊥ : EReal) := by simp [Ideal.ofBits, Ideal.ieee]
  rw [e]; rfl

/-- The adjacency at a pair of rows, from the heads' squared distances, thresholds and sums. -/
theorem adj_apply (v4 : FVec Ideal S1x8 .f32) (v18 v32 v46 v60 : FVec Ideal S440x440 .f32) (v61 : Stack) (v62 : FVec Ideal S440x1 .f32) (a b c d e : Col)
    (z : Fin 4 → Fin 440 → Fin 32 → EReal) (t : Fin 4 → Fin 440 → EReal) (s : Fin 4 → EReal)
    (h0 : ∀ i j, v18 (ix2 i j) = Knn.sqDist (z 0) i j) (h1 : ∀ i j, v32 (ix2 i j) = Knn.sqDist (z 1) i j)
    (h2 : ∀ i j, v46 (ix2 i j) = Knn.sqDist (z 2) i j) (h3 : ∀ i j, v60 (ix2 i j) = Knn.sqDist (z 3) i j)
    (t0 : ∀ i : Fin 440, k1_pay108 (F := Ideal) v61 v62 a b c d e (ix2 (⟨i.val, by omega⟩ : Fin 1760) 0) = t 0 i)
    (t1 : ∀ i : Fin 440, k1_pay108 (F := Ideal) v61 v62 a b c d e (ix2 (⟨440 + i.val, by omega⟩ : Fin 1760) 0) = t 1 i)
    (t2 : ∀ i : Fin 440, k1_pay108 (F := Ideal) v61 v62 a b c d e (ix2 (⟨880 + i.val, by omega⟩ : Fin 1760) 0) = t 2 i)
    (t3 : ∀ i : Fin 440, k1_pay108 (F := Ideal) v61 v62 a b c d e (ix2 (⟨1320 + i.val, by omega⟩ : Fin 1760) 0) = t 3 i)
    (s0 : v4 (ix2 0 0) = s 0) (s1 : v4 (ix2 0 1) = s 1) (s2 : v4 (ix2 0 2) = s 2) (s3 : v4 (ix2 0 3) = s 3) (i j : Fin 440) :
    k1_pay113 v4 v60 (k1_pay111 v4 v32 v46 (k1_pay108 v61 v62 a b c d e) (k1_pay109 v4 v18 v61 v62 a b c d e)
        (k1_pay110 v32 v61 v62 a b c d e)) (k1_pay112 v60 (k1_pay108 v61 v62 a b c d e)) (ix2 i j)
      = Knn.meanOfFour fun h => Knn.headTerm (z h) (t h) (s h) i j := by
  pointwise [k1_pay113, k1_pay112, k1_pay111, k1_pay110, k1_pay109]
  simp only [h0, h1, h2, h3, t0, t1, t2, t3, s0, s1, s2, s3]
  rfl

/-- The router's probabilities. -/
theorem probs_apply (v1 : FVec Ideal S440x128 .f32) (w : Vec Ideal S128x3 .f32) (b : Vec Ideal S1x3 .f32) (i : Fin 440) (k : Fin 3) :
    k1_pay114 (F := Ideal) v1 w b (ix2 i k)
      = Knn.softmax (fun k => Knn.project (fun i d => v1 (ix2 i d)) (fun d k => w (ix2 d k)) i k + b (ix2 0 k)) k := by
  pointwise [k1_pay114]
  rfl

/-- Expert 0's weight. -/
theorem weight0_apply (v1 : FVec Ideal S440x128 .f32) (w : Vec Ideal S128x3 .f32) (b : Vec Ideal S1x3 .f32) (i : Fin 440) :
    k1_pay126 (F := Ideal) (k1_pay115 v1 w b) (k1_pay116 v1 w b) (k1_pay117 v1 w b) k1_pay118 (k1_pay119 v1 w b)
        (k1_pay120 v1 w b) (k1_pay121 v1 w b) (ix2 i 0)
      = Knn.weight (Knn.kept fun k => k1_pay114 (F := Ideal) v1 w b (ix2 i k)) 0 := by
  pointwise [k1_pay126, k1_pay125, k1_pay124, k1_pay123, k1_pay122, k1_pay121, k1_pay120, k1_pay119, k1_pay118, k1_pay117,
    k1_pay116, k1_pay115]
  rfl

/-- Expert 1's weight. -/
theorem weight1_apply (v1 : FVec Ideal S440x128 .f32) (w : Vec Ideal S128x3 .f32) (b : Vec Ideal S1x3 .f32) (i : Fin 440) :
    k1_pay127 (F := Ideal) (k1_pay115 v1 w b) (k1_pay116 v1 w b) (k1_pay117 v1 w b) k1_pay118 (k1_pay119 v1 w b)
        (k1_pay120 v1 w b) (k1_pay121 v1 w b) (ix2 i 0)
      = Knn.weight (Knn.kept fun k => k1_pay114 (F := Ideal) v1 w b (ix2 i k)) 1 := by
  pointwise [k1_pay127, k1_pay125, k1_pay124, k1_pay123, k1_pay122, k1_pay121, k1_pay120, k1_pay119, k1_pay118, k1_pay117,
    k1_pay116, k1_pay115]
  rfl

/-- Expert 2's weight. -/
theorem weight2_apply (v1 : FVec Ideal S440x128 .f32) (w : Vec Ideal S128x3 .f32) (b : Vec Ideal S1x3 .f32) (i : Fin 440) :
    k1_pay128 (F := Ideal) (k1_pay115 v1 w b) (k1_pay116 v1 w b) (k1_pay117 v1 w b) k1_pay118 (k1_pay119 v1 w b)
        (k1_pay120 v1 w b) (k1_pay121 v1 w b) (ix2 i 0)
      = Knn.weight (Knn.kept fun k => k1_pay114 (F := Ideal) v1 w b (ix2 i k)) 2 := by
  pointwise [k1_pay128, k1_pay125, k1_pay124, k1_pay123, k1_pay122, k1_pay121, k1_pay120, k1_pay119, k1_pay118, k1_pay117,
    k1_pay116, k1_pay115]
  rfl

/-- The edge gate's argument. -/
theorem gate_apply (v1 : FVec Ideal S440x128 .f32) (w1 : Vec Ideal S128x64 .f32) (b1 : Vec Ideal S1x64 .f32)
    (w2 : Vec Ideal S64x1 .f32) (b2 thr : Vec Ideal S1x1 .f32) (i j : Fin 440) :
    Ideal.logistic (k1_pay135 (F := Ideal) (k1_pay130 v1 w1 b1) (k1_pay132 v1 w1 b1) (k1_pay133 v1 w1 b1) (k1_pay134 v1 w1 b1)
        (Scalar.ofBits .f32 0x3F800000#32) w2 b2 thr (ix2 i j))
      = Knn.edge (Knn.gate Knn.erfHorner (fun i d => v1 (ix2 i d)) (fun d k => w1 (ix2 d k)) (fun k => b1 (ix2 0 k))
          (fun k => w2 (ix2 k 0)) (b2 (ix2 0 0))) (thr (ix2 0 0)) i j := by
  pointwise [k1_pay135, k1_pay134, k1_pay133, k1_pay132, k1_pay131, k1_pay130, k1_pay129]
  rfl

/-- The stored block at a pair of rows. -/
theorem k1_pay1_apply (adj e s t : FVec Ideal S440x440 .f32) (w0 w1 w2 : FVec Ideal S440x1 .f32) (i j : Fin 440) :
    k1_pay1 (F := Ideal) adj w0 w1 w2 e s t (ix3 0 i j)
      = adj (ix2 i j) * (Ideal.logistic (e (ix2 i j)) * w0 (ix2 i 0) + s (ix2 i j) * w1 (ix2 i 0) + t (ix2 i j) * w2 (ix2 i 0)) := by
  pointwise [k1_pay1]

/-- One head's projected rows in the block. -/
def rows (x0 : Vec Ideal S1x440x128 .f32) (x1 : Vec Ideal S4x128x32 .f32) (h : Fin 4) : Fin 440 → Fin 32 → EReal :=
  Knn.project (fun i d => x0 (ix3 0 i d)) fun d k => x1 (ix3 h d k)

/-- A row's neighbour threshold, as the kernel finds it. -/
def thresholdOf (z : Fin 440 → Fin 32 → EReal) (i : Fin 440) : EReal :=
  Knn.threshold (fun j => Knn.sqDist z i j) ((66 : ℝ) : EReal) 22

section
variable (x0 : Vec Ideal S1x440x128 .f32) (x1 : Vec Ideal S4x128x32 .f32) (x2 : Vec Ideal S128x3 .f32) (x3 : Vec Ideal S1x3 .f32) (x4 : Vec Ideal S128x64 .f32) (x5 : Vec Ideal S1x64 .f32) (x6 : Vec Ideal S64x1 .f32) (x7 : Vec Ideal S1x1 .f32) (x8 : Vec Ideal S1x1 .f32) (x9 : Vec Ideal S32x1x8 .f32) (x10 : Vec Ideal S440x440 .f32) (x11 : Vec Ideal S440x440 .f32)

/-- Head 0's squared distances in the block. -/
theorem sq_head0 (i j : Fin 440) : (k1_pay138 x0 x1 x2 x3 x4 x5 x6 x7 x8 x9 x10 x11) (ix2 i j) = Knn.sqDist (rows x0 x1 0) i j := by
  have e : (fun d k => View.ld x1 r1_2 (ix3 0 d k)) = fun d k => x1 (ix3 0 d k) := by
    funext d k; exact ld_head0 x1 d k
  have e0 : View.ld x0 r1_0 = x0 := View.ld_unit_zero hz3 _ x0
  refine (k1_pay4_apply (View.ld x0 r1_0) (View.ld x1 r1_2) i j).trans ?_
  rw [e, e0]; rfl

/-- Head 1's squared distances in the block. -/
theorem sq_head1 (i j : Fin 440) : (k1_pay139 x0 x1 x2 x3 x4 x5 x6 x7 x8 x9 x10 x11) (ix2 i j) = Knn.sqDist (rows x0 x1 1) i j := by
  have e : (fun d k => View.ld x1 r1_3 (ix3 0 d k)) = fun d k => x1 (ix3 1 d k) := by
    funext d k; exact ld_head1 x1 d k
  have e0 : View.ld x0 r1_0 = x0 := View.ld_unit_zero hz3 _ x0
  refine (k1_pay5_apply (View.ld x0 r1_0) (View.ld x1 r1_3) i j).trans ?_
  rw [e, e0]; rfl

/-- Head 2's squared distances in the block. -/
theorem sq_head2 (i j : Fin 440) : (k1_pay7 (k1_pay136 x0 x1 x2 x3 x4 x5 x6 x7 x8 x9 x10 x11) (k1_pay140 x0 x1 x2 x3 x4 x5 x6 x7 x8 x9 x10 x11)) (ix2 i j) = Knn.sqDist (rows x0 x1 2) i j := by
  have e : (fun d k => View.ld x1 r1_4 (ix3 0 d k)) = fun d k => x1 (ix3 2 d k) := by
    funext d k; exact ld_head2 x1 d k
  have e0 : View.ld x0 r1_0 = x0 := View.ld_unit_zero hz3 _ x0
  refine (k1_pay7_apply (View.ld x0 r1_0) (View.ld x1 r1_4) i j).trans ?_
  rw [e, e0]; rfl

/-- Head 3's squared distances in the block. -/
theorem sq_head3 (i j : Fin 440) : (k1_pay141 x0 x1 x2 x3 x4 x5 x6 x7 x8 x9 x10 x11) (ix2 i j) = Knn.sqDist (rows x0 x1 3) i j := by
  have e : (fun d k => View.ld x1 r1_5 (ix3 0 d k)) = fun d k => x1 (ix3 3 d k) := by
    funext d k; exact ld_head3 x1 d k
  have e0 : View.ld x0 r1_0 = x0 := View.ld_unit_zero hz3 _ x0
  refine (k1_pay8_apply (View.ld x0 r1_0) (View.ld x1 r1_5) i j).trans ?_
  rw [e, e0]; rfl

/-- Head 0's thresholds in the block. -/
theorem threshold_head0 (i : Fin 440) :
    k1_pay177 x0 x1 x2 x3 x4 x5 x6 x7 x8 x9 x10 x11 (ix2 (⟨i.val, by omega⟩ : Fin 1760) 0) = thresholdOf (rows x0 x1 0) i := by
  have e : (fun j => k1_pay142 x0 x1 x2 x3 x4 x5 x6 x7 x8 x9 x10 x11 (ix2 (⟨i.val, by omega⟩ : Fin 1760) j)) = fun j => Knn.sqDist (rows x0 x1 0) i j := by
    funext j
    exact (stack_head0 (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5) i j).trans (sq_head0 (x0 := x0) (x1 := x1) (x2 := x2) (x3 := x3) (x4 := x4) (x5 := x5) (x6 := x6) (x7 := x7) (x8 := x8) (x9 := x9) (x10 := x10) (x11 := x11) i j)
  rw [thresholds_eq]
  refine (thresholds_row (k1_pay142 x0 x1 x2 x3 x4 x5 x6 x7 x8 x9 x10 x11) (k1_pay145 x0 x1 x2 x3 x4 x5 x6 x7 x8 x9 x10 x11) _ (rowmax_apply (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5) _)).trans ?_
  rw [e]; rfl

/-- Head 1's thresholds in the block. -/
theorem threshold_head1 (i : Fin 440) :
    k1_pay177 x0 x1 x2 x3 x4 x5 x6 x7 x8 x9 x10 x11 (ix2 (⟨440 + i.val, by omega⟩ : Fin 1760) 0) = thresholdOf (rows x0 x1 1) i := by
  have e : (fun j => k1_pay142 x0 x1 x2 x3 x4 x5 x6 x7 x8 x9 x10 x11 (ix2 (⟨440 + i.val, by omega⟩ : Fin 1760) j)) = fun j => Knn.sqDist (rows x0 x1 1) i j := by
    funext j
    exact (stack_head1 (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5) i j).trans (sq_head1 (x0 := x0) (x1 := x1) (x2 := x2) (x3 := x3) (x4 := x4) (x5 := x5) (x6 := x6) (x7 := x7) (x8 := x8) (x9 := x9) (x10 := x10) (x11 := x11) i j)
  rw [thresholds_eq]
  refine (thresholds_row (k1_pay142 x0 x1 x2 x3 x4 x5 x6 x7 x8 x9 x10 x11) (k1_pay145 x0 x1 x2 x3 x4 x5 x6 x7 x8 x9 x10 x11) _ (rowmax_apply (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5) _)).trans ?_
  rw [e]; rfl

/-- Head 2's thresholds in the block. -/
theorem threshold_head2 (i : Fin 440) :
    k1_pay177 x0 x1 x2 x3 x4 x5 x6 x7 x8 x9 x10 x11 (ix2 (⟨880 + i.val, by omega⟩ : Fin 1760) 0) = thresholdOf (rows x0 x1 2) i := by
  have e : (fun j => k1_pay142 x0 x1 x2 x3 x4 x5 x6 x7 x8 x9 x10 x11 (ix2 (⟨880 + i.val, by omega⟩ : Fin 1760) j)) = fun j => Knn.sqDist (rows x0 x1 2) i j := by
    funext j
    exact (stack_head2 (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5) i j).trans (sq_head2 (x0 := x0) (x1 := x1) (x2 := x2) (x3 := x3) (x4 := x4) (x5 := x5) (x6 := x6) (x7 := x7) (x8 := x8) (x9 := x9) (x10 := x10) (x11 := x11) i j)
  rw [thresholds_eq]
  refine (thresholds_row (k1_pay142 x0 x1 x2 x3 x4 x5 x6 x7 x8 x9 x10 x11) (k1_pay145 x0 x1 x2 x3 x4 x5 x6 x7 x8 x9 x10 x11) _ (rowmax_apply (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5) _)).trans ?_
  rw [e]; rfl

/-- Head 3's thresholds in the block. -/
theorem threshold_head3 (i : Fin 440) :
    k1_pay177 x0 x1 x2 x3 x4 x5 x6 x7 x8 x9 x10 x11 (ix2 (⟨1320 + i.val, by omega⟩ : Fin 1760) 0) = thresholdOf (rows x0 x1 3) i := by
  have e : (fun j => k1_pay142 x0 x1 x2 x3 x4 x5 x6 x7 x8 x9 x10 x11 (ix2 (⟨1320 + i.val, by omega⟩ : Fin 1760) j)) = fun j => Knn.sqDist (rows x0 x1 3) i j := by
    funext j
    exact (stack_head3 (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5) i j).trans (sq_head3 (x0 := x0) (x1 := x1) (x2 := x2) (x3 := x3) (x4 := x4) (x5 := x5) (x6 := x6) (x7 := x7) (x8 := x8) (x9 := x9) (x10 := x10) (x11 := x11) i j)
  rw [thresholds_eq]
  refine (thresholds_row (k1_pay142 x0 x1 x2 x3 x4 x5 x6 x7 x8 x9 x10 x11) (k1_pay145 x0 x1 x2 x3 x4 x5 x6 x7 x8 x9 x10 x11) _ (rowmax_apply (k1_pay136 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay140 x0 x1 x2 x3 x4 x5 x6 x7 x8 x9 x10 x11) (View.ld x1 r1_5) _)).trans ?_
  rw [e]; rfl

end

/-- What one point of the second kernel leaves at a pair of rows, from the blocks it reads. -/
theorem out1_12_apply (x0 : Vec Ideal S1x440x128 .f32) (x1 : Vec Ideal S4x128x32 .f32) (x2 : Vec Ideal S128x3 .f32) (x3 : Vec Ideal S1x3 .f32) (x4 : Vec Ideal S128x64 .f32) (x5 : Vec Ideal S1x64 .f32) (x6 : Vec Ideal S64x1 .f32) (x7 : Vec Ideal S1x1 .f32) (x8 : Vec Ideal S1x1 .f32) (x9 : Vec Ideal S32x1x8 .f32) (x10 : Vec Ideal S440x440 .f32) (x11 : Vec Ideal S440x440 .f32) (i j : Fin 440) :
    out1_12 x0 x1 x2 x3 x4 x5 x6 x7 x8 x9 x10 x11 (ix3 0 i j)
      = Knn.meanOfFour (fun h => Knn.headTerm (rows x0 x1 h) (thresholdOf (rows x0 x1 h))
            (∑ b : Fin 32, x9 (ix3 b 0 (Fin.castLE (by decide) h))) i j)
        * (Knn.edge (Knn.gate Knn.erfHorner (fun i d => x0 (ix3 0 i d)) (fun d k => x4 (ix2 d k)) (fun k => x5 (ix2 0 k))
              (fun k => x6 (ix2 k 0)) (x7 (ix2 0 0))) (x8 (ix2 0 0)) i j
            * Knn.weight (Knn.kept (Knn.softmax fun k => Knn.project (fun i d => x0 (ix3 0 i d)) (fun d k => x2 (ix2 d k)) i k + x3 (ix2 0 k))) 0
          + x10 (ix2 i j) * Knn.weight (Knn.kept (Knn.softmax fun k => Knn.project (fun i d => x0 (ix3 0 i d)) (fun d k => x2 (ix2 d k)) i k + x3 (ix2 0 k))) 1
          + x11 (ix2 i j) * Knn.weight (Knn.kept (Knn.softmax fun k => Knn.project (fun i d => x0 (ix3 0 i d)) (fun d k => x2 (ix2 d k)) i k + x3 (ix2 0 k))) 2) := by
  have e0 : View.ld x0 r1_0 = x0 := View.ld_unit_zero hz3 _ x0
  have e2 : View.ld x2 r1_6 = x2 := View.ld_unit_zero hz2 _ x2
  have e3 : View.ld x3 r1_7 = x3 := View.ld_unit_zero hz2 _ x3
  have e4 : View.ld x4 r1_8 = x4 := View.ld_unit_zero hz2 _ x4
  have e5 : View.ld x5 r1_9 = x5 := View.ld_unit_zero hz2 _ x5
  have e6 : View.ld x6 r1_10 = x6 := View.ld_unit_zero hz2 _ x6
  have e7 : View.ld x7 r1_11 = x7 := View.ld_unit_zero hz2 _ x7
  have e8 : View.ld x8 r1_11 = x8 := View.ld_unit_zero hz2 _ x8
  have e9 : View.ld x9 r1_1 = x9 := View.ld_unit_zero hz3 _ x9
  have e10 : View.ld x10 r1_12 = x10 := View.ld_unit_zero hz2 _ x10
  have e11 : View.ld x11 r1_12 = x11 := View.ld_unit_zero hz2 _ x11
  have hx : (fun i d => k1_pay2 (F := Ideal) x0 (ix2 i d)) = fun (i : Fin 440) (d : Fin 128) => x0 (ix3 0 i d) := by
    funext i d; pointwise [k1_pay2]
  have hs : ∀ h : Fin 8, k1_pay137 x0 x1 x2 x3 x4 x5 x6 x7 x8 x9 x10 x11 (ix2 0 h) = ∑ b : Fin 32, x9 (ix3 b 0 h) := by
    intro h
    show k1_pay3 (View.ld x9 r1_1) (ix2 0 h) = _
    rw [e9]
    pointwise [k1_pay3]
  have hp : (fun k => k1_pay114 (F := Ideal) (k1_pay136 x0 x1 x2 x3 x4 x5 x6 x7 x8 x9 x10 x11) x2 x3 (ix2 i k))
      = Knn.softmax fun k => Knn.project (fun i d => x0 (ix3 0 i d)) (fun d k => x2 (ix2 d k)) i k + x3 (ix2 0 k) := by
    funext k
    rw [probs_apply]
    show Knn.softmax (fun k => Knn.project (fun i d => k1_pay2 (F := Ideal) (View.ld x0 r1_0) (ix2 i d)) _ i k + _) k = _
    rw [e0, hx]
  unfold out1_12
  rw [View.canon_unit_zero hz3, k1_pay1_apply]
  refine congrArg₂ (· * ·) ?_ (congrArg₂ (· + ·) (congrArg₂ (· + ·) (congrArg₂ (· * ·) ?_ ?_) (congrArg₂ (· * ·) ?_ ?_)) (congrArg₂ (· * ·) ?_ ?_))
  · exact adj_apply (k1_pay137 x0 x1 x2 x3 x4 x5 x6 x7 x8 x9 x10 x11) (k1_pay138 x0 x1 x2 x3 x4 x5 x6 x7 x8 x9 x10 x11) (k1_pay139 x0 x1 x2 x3 x4 x5 x6 x7 x8 x9 x10 x11) (k1_pay7 (k1_pay136 x0 x1 x2 x3 x4 x5 x6 x7 x8 x9 x10 x11) (k1_pay140 x0 x1 x2 x3 x4 x5 x6 x7 x8 x9 x10 x11)) (k1_pay141 x0 x1 x2 x3 x4 x5 x6 x7 x8 x9 x10 x11) (k1_pay142 x0 x1 x2 x3 x4 x5 x6 x7 x8 x9 x10 x11) (k1_pay143 x0 x1 x2 x3 x4 x5 x6 x7 x8 x9 x10 x11) (k1_pay172 x0 x1 x2 x3 x4 x5 x6 x7 x8 x9 x10 x11) (k1_pay173 x0 x1 x2 x3 x4 x5 x6 x7 x8 x9 x10 x11) (k1_pay174 x0 x1 x2 x3 x4 x5 x6 x7 x8 x9 x10 x11) (k1_pay175 x0 x1 x2 x3 x4 x5 x6 x7 x8 x9 x10 x11) (k1_pay176 x0 x1 x2 x3 x4 x5 x6 x7 x8 x9 x10 x11)
      (rows x0 x1) (fun h => thresholdOf (rows x0 x1 h)) (fun h => ∑ b : Fin 32, x9 (ix3 b 0 (Fin.castLE (by decide) h)))
      (sq_head0 x0 x1 x2 x3 x4 x5 x6 x7 x8 x9 x10 x11) (sq_head1 x0 x1 x2 x3 x4 x5 x6 x7 x8 x9 x10 x11) (sq_head2 x0 x1 x2 x3 x4 x5 x6 x7 x8 x9 x10 x11) (sq_head3 x0 x1 x2 x3 x4 x5 x6 x7 x8 x9 x10 x11) (threshold_head0 x0 x1 x2 x3 x4 x5 x6 x7 x8 x9 x10 x11) (threshold_head1 x0 x1 x2 x3 x4 x5 x6 x7 x8 x9 x10 x11) (threshold_head2 x0 x1 x2 x3 x4 x5 x6 x7 x8 x9 x10 x11) (threshold_head3 x0 x1 x2 x3 x4 x5 x6 x7 x8 x9 x10 x11) (hs 0) (hs 1) (hs 2) (hs 3) i j
  · rw [e4, e5, e6, e7, e8, gate_apply]
    show Knn.edge (Knn.gate _ (fun i d => k1_pay2 (F := Ideal) (View.ld x0 r1_0) (ix2 i d)) _ _ _ _) _ i j = _
    rw [e0, hx]
  · refine (weight0_apply (k1_pay136 x0 x1 x2 x3 x4 x5 x6 x7 x8 x9 x10 x11) (View.ld x2 r1_6) (View.ld x3 r1_7) i).trans ?_
    rw [e2, e3, hp]
  · exact congrFun e10 _
  · refine (weight1_apply (k1_pay136 x0 x1 x2 x3 x4 x5 x6 x7 x8 x9 x10 x11) (View.ld x2 r1_6) (View.ld x3 r1_7) i).trans ?_
    rw [e2, e3, hp]
  · exact congrFun e11 _
  · refine (weight2_apply (k1_pay136 x0 x1 x2 x3 x4 x5 x6 x7 x8 x9 x10 x11) (View.ld x2 r1_6) (View.ld x3 r1_7) i).trans ?_
    rw [e2, e3, hp]

end Cert.KernelIdeal.Out

end
-- ==== Proof.KernelRun.lean ====
/- What a run of the kernel leaves in its result buffer, before the contents are read: the second region's output
   array as its write-backs leave it, the argument buffers as launched. -/
module

public import proofs.«01_k».proof.Proof.Gen.KernelIdeal.Frame

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array after the run: the second region's output window with every write-back folded in. -/
def result (c : Dev nD) : Buf (Elt F) ((c.tc : Thread nD τ).loc main_v29) := W4 m ρ c (Proc.devRef .tc main_v29)

/-- The result array is the last window's array of the second region. -/
theorem result_eq (c : Dev nD) : result m ρ c = (dat1 (V3 m ρ) c).arrAt 12 cfg1.N := W4_arr m ρ c 12

set_option backward.isDefEq.respectTransparency.types false in
/-- Every run of the kernel ends with the result buffer at `result` and the argument buffers as launched. -/
theorem run : θ_run defs (onTc (τ := τ) (main (F := F))) ⟨m, fun _ => 0, ρ⟩ (fun r => ∀ c : Dev nD,
      r.2.mem ((c.tc : Thread nD τ).loc main_v29) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Out

end
-- ==== Proof.KernelArray.lean ====
/- The second kernel's result array, entry by entry, from the launch contents. -/
module

public import proofs.«01_k».proof.Proof.Block
public import proofs.«01_k».proof.Proof.KernelRun

@[expose] public section

set_option maxRecDepth 16384

noncomputable section

namespace Cert.KernelIdeal.Out

open Idealize.ShloMosaic Idealize.ShloMosaic.Pipeline
open Cert.KernelIdeal.Gen

section Array
variable (V : (c : Dev nD) → (b : Ref sig .tc) → Buf (Elt Ideal) ((c.tc : Thread nD τ).loc b))

/-- The block indices of the batch windows at a point. -/
theorem index1 : ∀ t : Fin cfg1.N,
    (win1_0.index t (0 : Fin 3) = t.val ∧ win1_0.index t (1 : Fin 3) = 0 ∧ win1_0.index t (2 : Fin 3) = 0)
    ∧ (win1_12.index t (0 : Fin 3) = t.val ∧ win1_12.index t (1 : Fin 3) = 0 ∧ win1_12.index t (2 : Fin 3) = 0) :=
  (by decide +kernel : ∀ t : Fin grid1.N, _)

/-- An index of the point's block of the first argument, in the array. -/
theorem emb1_0 (t : Fin cfg1.N) (j : S1x440x128.Idx) :
    ((cfg1.win 0).blk t).view.emb j = (ix3 (⟨t.val, t.isLt⟩ : Fin 32) (j 1) (j 2) : S32x440x128.Idx) := by
  obtain ⟨⟨e0, e1, e2⟩, -⟩ := index1 t
  have hj : (j 0).val < 1 := (j 0).isLt
  funext a; apply Fin.ext
  match a with
  | ⟨0, _⟩ => show win1_0.index t (0 : Fin 3) * 1 + 1 * (j 0).val = t.val; omega
  | ⟨1, _⟩ => show win1_0.index t (1 : Fin 3) * 440 + 1 * (j 1).val = (j 1).val; omega
  | ⟨2, _⟩ => show win1_0.index t (2 : Fin 3) * 128 + 1 * (j 2).val = (j 2).val; omega

/-- An index of the point's block of the result, in the array. -/
theorem emb1_12 (t : Fin cfg1.N) (j : S1x440x440.Idx) :
    ((cfg1.win 12).blk t).view.emb j = (ix3 (⟨t.val, t.isLt⟩ : Fin 32) (j 1) (j 2) : S32x440x440.Idx) := by
  obtain ⟨-, e0, e1, e2⟩ := index1 t
  have hj : (j 0).val < 1 := (j 0).isLt
  funext a; apply Fin.ext
  match a with
  | ⟨0, _⟩ => show win1_12.index t (0 : Fin 3) * 1 + 1 * (j 0).val = t.val; omega
  | ⟨1, _⟩ => show win1_12.index t (1 : Fin 3) * 440 + 1 * (j 1).val = (j 1).val; omega
  | ⟨2, _⟩ => show win1_12.index t (2 : Fin 3) * 440 + 1 * (j 2).val = (j 2).val; omega

/-- The block of the first argument at a point. -/
theorem iblk1_0 (c : Dev nD) (t : Fin cfg1.N) :
    iblk1 V c 0 t = fun y : S1x440x128.Idx => V c main_arg0 (ix3 (⟨t.val, t.isLt⟩ : Fin 32) (y 1) (y 2) : S32x440x128.Idx) := by
  funext j; show V c main_arg0 (((cfg1.win 0).blk t).view.emb j) = _; rw [emb1_0]

/-- The block of window 1 is the whole of its array. -/
theorem iblk1_1 (c : Dev nD) (t : Fin cfg1.N) : iblk1 V c 1 t = V c main_arg1 := by
  have hi : ∀ t : Fin cfg1.N, win1_1.index t (0 : Fin 3) = 0 ∧ win1_1.index t (1 : Fin 3) = 0 ∧ win1_1.index t (2 : Fin 3) = 0 :=
    (by decide +kernel : ∀ t : Fin grid1.N, _)
  obtain ⟨e0, e1, e2⟩ := hi t
  funext j
  show V c main_arg1 (((cfg1.win 1).blk t).view.emb j) = V c main_arg1 j
  congr 1; funext a; apply Fin.ext
  match a with
  | ⟨0, _⟩ => show win1_1.index t (0 : Fin 3) * 4 + 1 * (j 0).val = (j 0).val; omega
  | ⟨1, _⟩ => show win1_1.index t (1 : Fin 3) * 128 + 1 * (j 1).val = (j 1).val; omega
  | ⟨2, _⟩ => show win1_1.index t (2 : Fin 3) * 32 + 1 * (j 2).val = (j 2).val; omega

/-- The block of window 2 is the whole of its array. -/
theorem iblk1_2 (c : Dev nD) (t : Fin cfg1.N) : iblk1 V c 2 t = V c main_arg2 := by
  have hi : ∀ t : Fin cfg1.N, win1_2.index t (0 : Fin 2) = 0 ∧ win1_2.index t (1 : Fin 2) = 0 :=
    (by decide +kernel : ∀ t : Fin grid1.N, _)
  obtain ⟨e0, e1⟩ := hi t
  funext j
  show V c main_arg2 (((cfg1.win 2).blk t).view.emb j) = V c main_arg2 j
  congr 1; funext a; apply Fin.ext
  match a with
  | ⟨0, _⟩ => show win1_2.index t (0 : Fin 2) * 128 + 1 * (j 0).val = (j 0).val; omega
  | ⟨1, _⟩ => show win1_2.index t (1 : Fin 2) * 3 + 1 * (j 1).val = (j 1).val; omega

/-- The block of window 3 is the whole of its array. -/
theorem iblk1_3 (c : Dev nD) (t : Fin cfg1.N) : iblk1 V c 3 t = V c main_v0 := by
  have hi : ∀ t : Fin cfg1.N, win1_3.index t (0 : Fin 2) = 0 ∧ win1_3.index t (1 : Fin 2) = 0 :=
    (by decide +kernel : ∀ t : Fin grid1.N, _)
  obtain ⟨e0, e1⟩ := hi t
  funext j
  show V c main_v0 (((cfg1.win 3).blk t).view.emb j) = V c main_v0 j
  congr 1; funext a; apply Fin.ext
  match a with
  | ⟨0, _⟩ => show win1_3.index t (0 : Fin 2) * 1 + 1 * (j 0).val = (j 0).val; omega
  | ⟨1, _⟩ => show win1_3.index t (1 : Fin 2) * 3 + 1 * (j 1).val = (j 1).val; omega

/-- The block of window 4 is the whole of its array. -/
theorem iblk1_4 (c : Dev nD) (t : Fin cfg1.N) : iblk1 V c 4 t = V c main_arg4 := by
  have hi : ∀ t : Fin cfg1.N, win1_4.index t (0 : Fin 2) = 0 ∧ win1_4.index t (1 : Fin 2) = 0 :=
    (by decide +kernel : ∀ t : Fin grid1.N, _)
  obtain ⟨e0, e1⟩ := hi t
  funext j
  show V c main_arg4 (((cfg1.win 4).blk t).view.emb j) = V c main_arg4 j
  congr 1; funext a; apply Fin.ext
  match a with
  | ⟨0, _⟩ => show win1_4.index t (0 : Fin 2) * 128 + 1 * (j 0).val = (j 0).val; omega
  | ⟨1, _⟩ => show win1_4.index t (1 : Fin 2) * 64 + 1 * (j 1).val = (j 1).val; omega

/-- The block of window 5 is the whole of its array. -/
theorem iblk1_5 (c : Dev nD) (t : Fin cfg1.N) : iblk1 V c 5 t = V c main_v1 := by
  have hi : ∀ t : Fin cfg1.N, win1_5.index t (0 : Fin 2) = 0 ∧ win1_5.index t (1 : Fin 2) = 0 :=
    (by decide +kernel : ∀ t : Fin grid1.N, _)
  obtain ⟨e0, e1⟩ := hi t
  funext j
  show V c main_v1 (((cfg1.win 5).blk t).view.emb j) = V c main_v1 j
  congr 1; funext a; apply Fin.ext
  match a with
  | ⟨0, _⟩ => show win1_5.index t (0 : Fin 2) * 1 + 1 * (j 0).val = (j 0).val; omega
  | ⟨1, _⟩ => show win1_5.index t (1 : Fin 2) * 64 + 1 * (j 1).val = (j 1).val; omega

/-- The block of window 6 is the whole of its array. -/
theorem iblk1_6 (c : Dev nD) (t : Fin cfg1.N) : iblk1 V c 6 t = V c main_arg6 := by
  have hi : ∀ t : Fin cfg1.N, win1_6.index t (0 : Fin 2) = 0 ∧ win1_6.index t (1 : Fin 2) = 0 :=
    (by decide +kernel : ∀ t : Fin grid1.N, _)
  obtain ⟨e0, e1⟩ := hi t
  funext j
  show V c main_arg6 (((cfg1.win 6).blk t).view.emb j) = V c main_arg6 j
  congr 1; funext a; apply Fin.ext
  match a with
  | ⟨0, _⟩ => show win1_6.index t (0 : Fin 2) * 64 + 1 * (j 0).val = (j 0).val; omega
  | ⟨1, _⟩ => show win1_6.index t (1 : Fin 2) * 1 + 1 * (j 1).val = (j 1).val; omega

/-- The block of window 7 is the whole of its array. -/
theorem iblk1_7 (c : Dev nD) (t : Fin cfg1.N) : iblk1 V c 7 t = V c main_v2 := by
  have hi : ∀ t : Fin cfg1.N, win1_7.index t (0 : Fin 2) = 0 ∧ win1_7.index t (1 : Fin 2) = 0 :=
    (by decide +kernel : ∀ t : Fin grid1.N, _)
  obtain ⟨e0, e1⟩ := hi t
  funext j
  show V c main_v2 (((cfg1.win 7).blk t).view.emb j) = V c main_v2 j
  congr 1; funext a; apply Fin.ext
  match a with
  | ⟨0, _⟩ => show win1_7.index t (0 : Fin 2) * 1 + 1 * (j 0).val = (j 0).val; omega
  | ⟨1, _⟩ => show win1_7.index t (1 : Fin 2) * 1 + 1 * (j 1).val = (j 1).val; omega

/-- The block of window 8 is the whole of its array. -/
theorem iblk1_8 (c : Dev nD) (t : Fin cfg1.N) : iblk1 V c 8 t = V c main_v3 := by
  have hi : ∀ t : Fin cfg1.N, win1_8.index t (0 : Fin 2) = 0 ∧ win1_8.index t (1 : Fin 2) = 0 :=
    (by decide +kernel : ∀ t : Fin grid1.N, _)
  obtain ⟨e0, e1⟩ := hi t
  funext j
  show V c main_v3 (((cfg1.win 8).blk t).view.emb j) = V c main_v3 j
  congr 1; funext a; apply Fin.ext
  match a with
  | ⟨0, _⟩ => show win1_8.index t (0 : Fin 2) * 1 + 1 * (j 0).val = (j 0).val; omega
  | ⟨1, _⟩ => show win1_8.index t (1 : Fin 2) * 1 + 1 * (j 1).val = (j 1).val; omega

/-- The block of window 9 is the whole of its array. -/
theorem iblk1_9 (c : Dev nD) (t : Fin cfg1.N) : iblk1 V c 9 t = V c main_v4 := by
  have hi : ∀ t : Fin cfg1.N, win1_9.index t (0 : Fin 3) = 0 ∧ win1_9.index t (1 : Fin 3) = 0 ∧ win1_9.index t (2 : Fin 3) = 0 :=
    (by decide +kernel : ∀ t : Fin grid1.N, _)
  obtain ⟨e0, e1, e2⟩ := hi t
  funext j
  show V c main_v4 (((cfg1.win 9).blk t).view.emb j) = V c main_v4 j
  congr 1; funext a; apply Fin.ext
  match a with
  | ⟨0, _⟩ => show win1_9.index t (0 : Fin 3) * 32 + 1 * (j 0).val = (j 0).val; omega
  | ⟨1, _⟩ => show win1_9.index t (1 : Fin 3) * 1 + 1 * (j 1).val = (j 1).val; omega
  | ⟨2, _⟩ => show win1_9.index t (2 : Fin 3) * 8 + 1 * (j 2).val = (j 2).val; omega

/-- The block of window 10 is the whole of its array. -/
theorem iblk1_10 (c : Dev nD) (t : Fin cfg1.N) : iblk1 V c 10 t = V c main_v16 := by
  have hi : ∀ t : Fin cfg1.N, win1_10.index t (0 : Fin 2) = 0 ∧ win1_10.index t (1 : Fin 2) = 0 :=
    (by decide +kernel : ∀ t : Fin grid1.N, _)
  obtain ⟨e0, e1⟩ := hi t
  funext j
  show V c main_v16 (((cfg1.win 10).blk t).view.emb j) = V c main_v16 j
  congr 1; funext a; apply Fin.ext
  match a with
  | ⟨0, _⟩ => show win1_10.index t (0 : Fin 2) * 440 + 1 * (j 0).val = (j 0).val; omega
  | ⟨1, _⟩ => show win1_10.index t (1 : Fin 2) * 440 + 1 * (j 1).val = (j 1).val; omega

/-- The block of window 11 is the whole of its array. -/
theorem iblk1_11 (c : Dev nD) (t : Fin cfg1.N) : iblk1 V c 11 t = V c main_v28 := by
  have hi : ∀ t : Fin cfg1.N, win1_11.index t (0 : Fin 2) = 0 ∧ win1_11.index t (1 : Fin 2) = 0 :=
    (by decide +kernel : ∀ t : Fin grid1.N, _)
  obtain ⟨e0, e1⟩ := hi t
  funext j
  show V c main_v28 (((cfg1.win 11).blk t).view.emb j) = V c main_v28 j
  congr 1; funext a; apply Fin.ext
  match a with
  | ⟨0, _⟩ => show win1_11.index t (0 : Fin 2) * 440 + 1 * (j 0).val = (j 0).val; omega
  | ⟨1, _⟩ => show win1_11.index t (1 : Fin 2) * 440 + 1 * (j 1).val = (j 1).val; omega

/-- Equal blocks give equal results of a point. -/
theorem out1_12_congr {x0 y0 : Vec Ideal S1x440x128 .f32} {x1 y1 : Vec Ideal S4x128x32 .f32} {x2 y2 : Vec Ideal S128x3 .f32} {x3 y3 : Vec Ideal S1x3 .f32} {x4 y4 : Vec Ideal S128x64 .f32} {x5 y5 : Vec Ideal S1x64 .f32} {x6 y6 : Vec Ideal S64x1 .f32} {x7 y7 : Vec Ideal S1x1 .f32} {x8 y8 : Vec Ideal S1x1 .f32} {x9 y9 : Vec Ideal S32x1x8 .f32} {x10 y10 : Vec Ideal S440x440 .f32} {x11 y11 : Vec Ideal S440x440 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    out1_12 x0 x1 x2 x3 x4 x5 x6 x7 x8 x9 x10 x11 = out1_12 y0 y1 y2 y3 y4 y5 y6 y7 y8 y9 y10 y11 := by
  rw [h0, h1, h2, h3, h4, h5, h6, h7, h8, h9, h10, h11]

/-- The output block after a point's body. -/
theorem after_eq (c : Dev nD) (t : Fin cfg1.N) :
    (dat1 V c).after 12 t = out1_12 (fun y : S1x440x128.Idx => V c main_arg0 (ix3 (⟨t.val, t.isLt⟩ : Fin 32) (y 1) (y 2) : S32x440x128.Idx)) (V c main_arg1) (V c main_arg2) (V c main_v0) (V c main_arg4) (V c main_v1) (V c main_arg6) (V c main_v2) (V c main_v3) (V c main_v4) (V c main_v16) (V c main_v28) :=
  (after1_12 V c t).trans (out1_12_congr (iblk1_0 V c t) (iblk1_1 V c t) (iblk1_2 V c t) (iblk1_3 V c t) (iblk1_4 V c t) (iblk1_5 V c t) (iblk1_6 V c t) (iblk1_7 V c t) (iblk1_8 V c t) (iblk1_9 V c t) (iblk1_10 V c t) (iblk1_11 V c t))

/-- The result array as one function of the arrays the second kernel reads. -/
def outArr (c : Dev nD) : Vec Ideal S32x440x440 .f32 := fun i =>
  out1_12 (fun y => V c main_arg0 (ix3 (i 0) (y 1) (y 2) : S32x440x128.Idx)) (V c main_arg1) (V c main_arg2) (V c main_v0) (V c main_arg4) (V c main_v1) (V c main_arg6) (V c main_v2) (V c main_v3) (V c main_v4) (V c main_v16) (V c main_v28) (ix3 0 (i 1) (i 2))

/-- The output block after a point's body, entry by entry. -/
theorem after_apply (c : Dev nD) (t : Fin cfg1.N) (j : S1x440x440.Idx) :
    (dat1 V c).after 12 t j = outArr V c (ix3 (⟨t.val, t.isLt⟩ : Fin 32) (j 1) (j 2) : S32x440x440.Idx) := by
  have hj : (j 0).val < 1 := (j 0).isLt
  have e : j = (ix3 0 (j 1) (j 2) : S1x440x440.Idx) := by
    funext a; apply Fin.ext
    match a with
    | ⟨0, _⟩ => show (j 0).val = 0; omega
    | ⟨1, _⟩ => rfl
    | ⟨2, _⟩ => rfl
  exact (congrFun (after_eq V c t) j).trans (congrArg (out1_12 (fun y => V c main_arg0 (ix3 (⟨t.val, t.isLt⟩ : Fin 32) (y 1) (y 2) : S32x440x128.Idx)) (V c main_arg1) (V c main_arg2) (V c main_v0) (V c main_arg4) (V c main_v1) (V c main_arg6) (V c main_v2) (V c main_v3) (V c main_v4) (V c main_v16) (V c main_v28)) e)

/-- What a point writes back is its block of any array that agrees with the block after the body. -/
theorem flushed_of (c : Dev nD) (t : Fin cfg1.N) (G : Vec Ideal S32x440x440 .f32)
    (h : ∀ j : S1x440x440.Idx, (dat1 V c).after 12 t j = G (ix3 (⟨t.val, t.isLt⟩ : Fin 32) (j 1) (j 2) : S32x440x440.Idx)) :
    (dat1 V c).flushed 12 t = ((cfg1.win 12).blk t).view.read (Elt Ideal) G := by
  funext j
  show (dat1 V c).after 12 t j = G (((cfg1.win 12).blk t).view.emb j)
  rw [emb1_12]
  exact h j

/-- What a point writes back is its block of that array. -/
theorem flushed1 (c : Dev nD) (t : Fin cfg1.N) :
    (dat1 V c).flushed 12 t = ((cfg1.win 12).blk t).view.read (Elt Ideal) (outArr V c) :=
  flushed_of V c t (outArr V c) (after_apply V c t)

/-- Every entry of the result is in some point's block. -/
theorem covered1 (i : S32x440x440.Idx) : ∃ t : Fin cfg1.N, (cfg1.win 12).flush t = true ∧ i ∈ ((cfg1.win 12).blk t).view.set := by
  refine ⟨⟨(i 0).val, (i 0).isLt⟩, flush1_12 _, ?_⟩
  have h := ((cfg1.win 12).blk (⟨(i 0).val, (i 0).isLt⟩ : Fin cfg1.N)).view.emb_mem_set (ix3 0 (i 1) (i 2) : S1x440x440.Idx)
  rw [emb1_12] at h
  have e : i = (ix3 (⟨(i 0).val, (i 0).isLt⟩ : Fin 32) (i 1) (i 2) : S32x440x440.Idx) := by
    funext a; match a with
    | ⟨0, _⟩ => rfl
    | ⟨1, _⟩ => rfl
    | ⟨2, _⟩ => rfl
  rw [e]; exact h

/-- The second kernel's result array. -/
theorem outArr_final (c : Dev nD) : (dat1 V c).arrAt 12 cfg1.N = outArr V c :=
  (dat1 V c).arrAt_eq_of_cover 12 (outArr V c) (fun t _ => flushed1 V c t) covered1

end Array

variable (m : (ℓ : Loc nD τ sig) → Buf (Elt Ideal) ℓ) (ρ : Dev nD → PrngReg)

/-- The spatial mask: the literal on the coarse pairs where the fine indices agree. -/
def smask : Vec Ideal S440x440 .f32 :=
  shapeCast S440x440
    (mulf
      (broadcastInDim S22x20x22x20 ![0, 1, 2, 3] bcast_S22x1x22x1_S22x20x22x20_0_1_2_3
        (broadcastInDim S22x1x22x1 ![0, 2] bcast_S22x22_S22x1x22x1_0_2
          (fun i => FloatOps.ofBits .f32 (lit0 (S22x22.rowMajor i)) : FVec Ideal S22x22 .f32)))
      (broadcastInDim S22x20x22x20 ![0, 1, 2, 3] bcast_S1x20x1x20_S22x20x22x20_0_1_2_3
        (broadcastInDim S1x20x1x20 ![1, 3] bcast_S20x20_S1x20x1x20_1_3
          (uitofp .f32 (cmpi .eq (addi (iotaInDim S20x20 32 0) (broadcastInDim S20x20 ![] bcast_S_S20x20 (constantI S_ 32 0#32)))
            (iotaInDim S20x20 32 1)) : FVec Ideal S20x20 .f32))))
    shapeCasts_S22x20x22x20_S440x440

/-- The temporal mask: the literal on the fine pairs where the coarse indices agree. -/
def tmask : Vec Ideal S440x440 .f32 :=
  shapeCast S440x440
    (mulf
      (broadcastInDim S22x20x22x20 ![0, 1, 2, 3] bcast_S22x1x22x1_S22x20x22x20_0_1_2_3
        (broadcastInDim S22x1x22x1 ![0, 2] bcast_S22x22_S22x1x22x1_0_2
          (uitofp .f32 (cmpi .eq (addi (iotaInDim S22x22 32 0) (broadcastInDim S22x22 ![] bcast_S_S22x22 (constantI S_ 32 0#32)))
            (iotaInDim S22x22 32 1)) : FVec Ideal S22x22 .f32)))
      (broadcastInDim S22x20x22x20 ![0, 1, 2, 3] bcast_S1x20x1x20_S22x20x22x20_0_1_2_3
        (broadcastInDim S1x20x1x20 ![1, 3] bcast_S20x20_S1x20x1x20_1_3
          (fun i => FloatOps.ofBits .f32 (lit1 (S20x20.rowMajor i)) : FVec Ideal S20x20 .f32))))
    shapeCasts_S22x20x22x20_S440x440

/-- An argument at the second region's entry is as launched. -/
theorem V3_arg (c : Dev nD) (a : Ref sig .tc) (h : a ∈ argRefs) : V3 m ρ c a = m (c.tc.loc a) := W3_args m ρ c a h

/-- A buffer only the first stretch writes, at the second region's entry. -/
theorem V3_early (c : Dev nD) (r : Ref sig .tc) (h1 : r ∉ hostOps1_W)
    (h2 : ∀ w : Fin cfg0.W, Pipeline.arrRef spec0 w = r → (cfg0.win w).isOut = false) :
    V3 m ρ c r = W1 m ρ c (Proc.devRef .tc r) := (W3_of m ρ c r h1).trans (W2_of m ρ c r h2)

/-- The gate bias, a row. -/
theorem V3_v0 (c : Dev nD) : V3 m ρ c main_v0 = shapeCast S1x3 (m (c.tc.loc main_arg3)) shapeCasts_S3_S1x3 := by
  rw [V3_early m ρ c main_v0 (by decide) (by decide)]
  show StableHlo.after hostOps0 (W0 m ρ c) (Proc.devRef .tc main_v0) = _
  after_results
  rfl

/-- The first bias of the gate, a row. -/
theorem V3_v1 (c : Dev nD) : V3 m ρ c main_v1 = shapeCast S1x64 (m (c.tc.loc main_arg5)) shapeCasts_S64_S1x64 := by
  rw [V3_early m ρ c main_v1 (by decide) (by decide)]
  show StableHlo.after hostOps0 (W0 m ρ c) (Proc.devRef .tc main_v1) = _
  after_results
  rfl

/-- The second bias of the gate. -/
theorem V3_v2 (c : Dev nD) : V3 m ρ c main_v2 = shapeCast S1x1 (m (c.tc.loc main_arg7)) shapeCasts_S1_S1x1 := by
  rw [V3_early m ρ c main_v2 (by decide) (by decide)]
  show StableHlo.after hostOps0 (W0 m ρ c) (Proc.devRef .tc main_v2) = _
  after_results
  rfl

/-- The edge threshold. -/
theorem V3_v3 (c : Dev nD) : V3 m ρ c main_v3 = shapeCast S1x1 (m (c.tc.loc main_arg8)) shapeCasts_S_S1x1 := by
  rw [V3_early m ρ c main_v3 (by decide) (by decide)]
  show StableHlo.after hostOps0 (W0 m ρ c) (Proc.devRef .tc main_v3) = _
  after_results
  rfl

/-- The array of sums. -/
theorem V3_v4 (c : Dev nD) : V3 m ρ c main_v4
    = sums (m (c.tc.loc main_arg0)) (m (c.tc.loc main_arg1)) := by
  have h := (W3_of m ρ c main_v4 (by decide)).trans ((W2_arr m ρ c 2).trans (sums_final (V1 m ρ) c))
  refine h.trans ?_
  have e0 : V1 m ρ c main_arg0 = m (c.tc.loc main_arg0) := W1_args m ρ c main_arg0 (by decide)
  have e1 : V1 m ρ c main_arg1 = m (c.tc.loc main_arg1) := W1_args m ρ c main_arg1 (by decide)
  rw [e0, e1]

/-- The spatial mask, at the second region's entry. -/
theorem V3_v16 (c : Dev nD) : V3 m ρ c main_v16 = smask := by
  have h : W2 m ρ c (Proc.devRef .tc main_cst) = (fun i => FloatOps.ofBits .f32 (lit0 (S22x22.rowMajor i)) : FVec Ideal S22x22 .f32) := by
    rw [W2_of m ρ c main_cst (by decide)]
    show StableHlo.after hostOps0 (W0 m ρ c) (Proc.devRef .tc main_cst) = _
    after_results
    rfl
  show StableHlo.after hostOps1 (W2 m ρ c) (Proc.devRef .tc main_v16) = _
  after_results
  rw [h]; rfl

/-- The temporal mask, at the second region's entry. -/
theorem V3_v28 (c : Dev nD) : V3 m ρ c main_v28 = tmask := by
  have h : W2 m ρ c (Proc.devRef .tc main_cst_0) = (fun i => FloatOps.ofBits .f32 (lit1 (S20x20.rowMajor i)) : FVec Ideal S20x20 .f32) := by
    rw [W2_of m ρ c main_cst_0 (by decide)]
    show StableHlo.after hostOps0 (W0 m ρ c) (Proc.devRef .tc main_cst_0) = _
    after_results
    rfl
  show StableHlo.after hostOps1 (W2 m ρ c) (Proc.devRef .tc main_v28) = _
  after_results
  rw [h]; rfl

end Cert.KernelIdeal.Out

end
-- ==== Proof.KernelValue.lean ====
/- The kernel's result at an index, from the launch contents. -/
module

public import proofs.«01_k».proof.Proof.KernelArray
public import Idealize.ShloMosaic.Lib.Pointwise

@[expose] public section

set_option maxRecDepth 16384

noncomputable section

namespace Cert.KernelIdeal.Out

open Idealize.ShloMosaic Idealize.ShloMosaic.Pipeline
open Cert.KernelIdeal.Gen

section Arrays
variable (X : Vec Ideal S32x440x128 .f32) (W : Vec Ideal S4x128x32 .f32)

/-- One head's projected rows of one batch entry. -/
def headRows (b : Fin 32) (h : Fin 4) : Fin 440 → Fin 32 → EReal :=
  Knn.project (fun i d => X (ix3 b i d)) fun d k => W (ix3 h d k)

/-- One head's sum of distances over the batch. -/
def headTotal (h : Fin 4) : EReal := ∑ b : Fin 32, ∑ i : Fin 440, ∑ j : Fin 440, Knn.dist (headRows X W b h) i j

/-- The sums of a head's lane are that head's total. -/
theorem total_lane (h : Fin 4) : (∑ b : Fin 32, sums X W (ix3 b 0 (Fin.castLE (by decide) h))) = headTotal X W h := by
  match h with
  | ⟨0, _⟩ => exact Finset.sum_congr rfl fun b _ => sums_lane0 X W b
  | ⟨1, _⟩ => exact Finset.sum_congr rfl fun b _ => sums_lane1 X W b
  | ⟨2, _⟩ => exact Finset.sum_congr rfl fun b _ => sums_lane2 X W b
  | ⟨3, _⟩ => exact Finset.sum_congr rfl fun b _ => sums_lane3 X W b

end Arrays

/-- The kernel's result at an index: the adjacency, times the gated sum of the three masks. -/
def entry (X : Vec Ideal S32x440x128 .f32) (W : Vec Ideal S4x128x32 .f32) (G : Vec Ideal S128x3 .f32) (gb : Vec Ideal S3 .f32)
    (W1 : Vec Ideal S128x64 .f32) (b1 : Vec Ideal S64 .f32) (W2 : Vec Ideal S64x1 .f32) (b2 : Vec Ideal S1 .f32)
    (thr : Vec Ideal S_ .f32) (b : Fin 32) (i j : Fin 440) : EReal :=
  let w := Knn.weight (Knn.kept (Knn.softmax fun k => Knn.project (fun i d => X (ix3 b i d)) (fun d k => G (ix2 d k)) i k + gb (ix1 k)))
  Knn.meanOfFour (fun h => Knn.headTerm (headRows X W b h) (thresholdOf (headRows X W b h)) (headTotal X W h) i j)
    * (Knn.edge (Knn.gate Knn.erfHorner (fun i d => X (ix3 b i d)) (fun d k => W1 (ix2 d k)) (fun k => b1 (ix1 k))
          (fun k => W2 (ix2 k 0)) (b2 (ix1 0))) (thr ix0) i j * w 0
      + smask (ix2 i j) * w 1 + tmask (ix2 i j) * w 2)

/-- A row of three read from the bias. -/
theorem cast3 (v : Vec Ideal S3 .f32) (k : Fin 3) : shapeCast S1x3 v shapeCasts_S3_S1x3 (ix2 0 k) = v (ix1 k) := by
  pointwise []

/-- A row of 64 read from the bias. -/
theorem cast64 (v : Vec Ideal S64 .f32) (k : Fin 64) : shapeCast S1x64 v shapeCasts_S64_S1x64 (ix2 0 k) = v (ix1 k) := by
  pointwise []

/-- A single entry read from a vector of one. -/
theorem cast1 (v : Vec Ideal S1 .f32) : shapeCast S1x1 v shapeCasts_S1_S1x1 (ix2 0 0) = v (ix1 0) := by
  pointwise []

/-- A single entry read from a scalar. -/
theorem cast0 (v : Vec Ideal S_ .f32) : shapeCast S1x1 v shapeCasts_S_S1x1 (ix2 0 0) = v ix0 := by
  pointwise []

/-- A point's block over blocks that hold the launch contents is the result's entry. -/
theorem entry_of (X : Vec Ideal S32x440x128 .f32) (W : Vec Ideal S4x128x32 .f32) (G : Vec Ideal S128x3 .f32) (gb : Vec Ideal S3 .f32)
    (W1 : Vec Ideal S128x64 .f32) (b1 : Vec Ideal S64 .f32) (W2 : Vec Ideal S64x1 .f32) (b2 : Vec Ideal S1 .f32)
    (thr : Vec Ideal S_ .f32) (x0 : Vec Ideal S1x440x128 .f32) (x3 : Vec Ideal S1x3 .f32) (x5 : Vec Ideal S1x64 .f32)
    (x7 : Vec Ideal S1x1 .f32) (x8 : Vec Ideal S1x1 .f32) (x9 : Vec Ideal S32x1x8 .f32) (b : Fin 32) (i j : Fin 440)
    (h0 : ∀ (i : Fin 440) (d : Fin 128), x0 (ix3 0 i d) = X (ix3 b i d)) (h3 : ∀ k : Fin 3, x3 (ix2 0 k) = gb (ix1 k))
    (h5 : ∀ k : Fin 64, x5 (ix2 0 k) = b1 (ix1 k)) (h7 : x7 (ix2 0 0) = b2 (ix1 0)) (h8 : x8 (ix2 0 0) = thr ix0)
    (h9 : ∀ h : Fin 4, (∑ b : Fin 32, x9 (ix3 b 0 (Fin.castLE (by decide) h))) = headTotal X W h) :
    out1_12 x0 W G x3 W1 x5 W2 x7 x8 x9 smask tmask (ix3 0 i j) = entry X W G gb W1 b1 W2 b2 thr b i j := by
  rw [out1_12_apply]
  have hr : ∀ h, rows x0 W h = headRows X W b h := by
    intro h; funext i k; simp only [rows, headRows, Knn.project, h0]
  unfold entry
  simp only [hr, h0, h3, h5, h7, h8, h9]

variable (m : (ℓ : Loc nD τ sig) → Buf (Elt Ideal) ℓ) (ρ : Dev nD → PrngReg)

/-- The kernel's result at an index. -/
theorem result_apply (c : Dev nD) (b : Fin 32) (i j : Fin 440) :
    result m ρ c (ix3 b i j)
      = entry (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) b i j := by
  rw [result_eq, outArr_final]
  show out1_12 _ _ _ _ _ _ _ _ _ _ _ _ (ix3 0 i j) = _
  rw [V3_v0, V3_v1, V3_v2, V3_v3, V3_v4, V3_v16, V3_v28, V3_arg m ρ c main_arg0 (by decide),
    V3_arg m ρ c main_arg1 (by decide), V3_arg m ρ c main_arg2 (by decide), V3_arg m ρ c main_arg4 (by decide),
    V3_arg m ρ c main_arg6 (by decide)]
  exact entry_of (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg8)) _ _ _ _ _ _ b i j (fun _ _ => rfl) (cast3 _) (cast64 _) (cast1 _) (cast0 _) (total_lane _ _)

end Cert.KernelIdeal.Out

end
-- ==== Proof.RefMasks.lean ====
/- The reference's two masks at a pair of nodes: near channels at one patch, consecutive patches of one channel. -/
module

public import proofs.«01_k».proof.Proof.RefNear

@[expose] public section

set_option maxRecDepth 16384

noncomputable section

namespace Knn

/-- A node's channel. -/
def channel (i : Fin 440) : Fin 22 := ⟨i.val / 20, by omega⟩

/-- A node's patch within its channel. -/
def patch (i : Fin 440) : Fin 20 := ⟨i.val % 20, by omega⟩

end Knn

namespace Cert.ReferenceIdeal.Read

open Idealize.ShloMosaic
open Cert.ReferenceIdeal Cert.ReferenceIdeal.Gen

/-- The nodes' channels, as printed. -/
def channels : IVec S440 32 := shapeCast _ (broadcastInDim S22x20 ![0] bcast_S22_S22x20_0 (iotaInDim S22 32 0)) shapeCasts_S22x20_S440

/-- The nodes' patches, as printed. -/
def patches : IVec S440 32 :=
  shapeCast _ (broadcastInDim S22x20 ![0, 1] bcast_S1x20_S22x20_0_1 (shapeCast _ (iotaInDim S20 32 0) shapeCasts_S20_S1x20)) shapeCasts_S22x20_S440

/-- The spatial mask, as printed: the table of near channels where the patches are the same. -/
def smask : FVec Ideal S440x440 .f32 :=
  select (cmpi .eq (broadcastInDim S440x440 ![0, 1] bcast_S440x1_S440x440_0_1 (broadcastInDim S440x1 ![0] bcast_S440_S440x1_0 patches))
      (broadcastInDim S440x440 ![0, 1] bcast_S1x440_S440x440_0_1 (broadcastInDim S1x440 ![1] bcast_S440_S1x440_1 patches)))
    (shapeCast _ (broadcastInDim S440x22x20 ![0, 1] bcast_S440x22_S440x22x20_0_1 (shapeCast _ (broadcastInDim S22x20x22 ![0, 2] bcast_S22x22_S22x20x22_0_2
      (fun i => FloatOps.ofBits .f32 (lit0 (S22x22.rowMajor i)) : FVec Ideal S22x22 .f32)) shapeCasts_S22x20x22_S440x22)) shapeCasts_S440x22x20_S440x440)
    (broadcastInDim S440x440 ![] bcast_S_S440x440 (constant S_ .f32 0x00000000#32))

/-- The temporal mask, as printed: one where the channels are the same and the patches differ by one. -/
def tmask : FVec Ideal S440x440 .f32 :=
  select (andi (cmpi .eq (broadcastInDim S440x440 ![0, 1] bcast_S440x1_S440x440_0_1 (broadcastInDim S440x1 ![0] bcast_S440_S440x1_0 channels))
      (broadcastInDim S440x440 ![0, 1] bcast_S1x440_S440x440_0_1 (broadcastInDim S1x440 ![1] bcast_S440_S1x440_1 channels)))
    (cmpi .eq (absi (subi (broadcastInDim S440x440 ![0, 1] bcast_S440x1_S440x440_0_1 (broadcastInDim S440x1 ![0] bcast_S440_S440x1_0 patches))
      (broadcastInDim S440x440 ![0, 1] bcast_S1x440_S440x440_0_1 (broadcastInDim S1x440 ![1] bcast_S440_S1x440_1 patches))))
      (broadcastInDim S440x440 ![] bcast_S_S440x440 (constantI S_ 32 1#32))))
    (broadcastInDim S440x440 ![] bcast_S_S440x440 (constant S_ .f32 0x3F800000#32)) (broadcastInDim S440x440 ![] bcast_S_S440x440 (constant S_ .f32 0x00000000#32))

/-- The spatial mask at a pair of nodes. -/
theorem smask_apply (i j : Fin 440) : smask (ix2 i j)
    = Scalar.select (IntOp.cmpi .eq (BitVec.ofNat 32 (Knn.patch i).val) (BitVec.ofNat 32 (Knn.patch j).val))
        (Ideal.ofBits .f32 (lit0 (S22x22.rowMajor (ix2 (Knn.channel i) (Knn.channel j))))) (0 : EReal) := by
  pointwise [smask, patches]
  rfl

/-- The temporal mask at a pair of nodes. -/
theorem tmask_apply (i j : Fin 440) : tmask (ix2 i j)
    = Scalar.select (IntOp.andi (IntOp.cmpi .eq (BitVec.ofNat 32 (Knn.channel i).val) (BitVec.ofNat 32 (Knn.channel j).val))
        (IntOp.cmpi .eq (IntOp.absi (IntOp.subi (BitVec.ofNat 32 (Knn.patch i).val) (BitVec.ofNat 32 (Knn.patch j).val))) 1#32))
        (1 : EReal) (0 : EReal) := by
  pointwise [tmask, patches, channels]
  rfl

end Cert.ReferenceIdeal.Read

end
-- ==== Proof.RefValue.lean ====
/- The reference's result at an index. -/
module

public import proofs.«01_k».proof.Proof.RefHead
public import proofs.«01_k».proof.Proof.RefWeights
public import proofs.«01_k».proof.Proof.RefGate
public import proofs.«01_k».proof.Proof.RefMasks

@[expose] public section

set_option maxRecDepth 16384

noncomputable section

attribute [local irreducible] Idealize.ShloMosaic.sortedFrom Knn.ascending Knn.ascendingNat Knn.descending

namespace Cert.ReferenceIdeal.Read

open Idealize.ShloMosaic
open Cert.ReferenceIdeal Cert.ReferenceIdeal.Gen Cert.ReferenceIdeal.Value

/-- The three routed parts summed, as printed, over any adjacency, gate, threshold, weights and masks. -/
def sumArr (A : FVec Ideal S32x440x440 .f32) (g : FVec Ideal S32x440 .f32) (thr : FVec Ideal S_ .f32) (w : FVec Ideal S32x440x3 .f32)
    (S T : FVec Ideal S440x440 .f32) : FVec Ideal S32x440x440 .f32 :=
  addf (addf (mulf (mulf A (Host.divf (broadcastInDim S32x440x440 ![] bcast_S_S32x440x440 (constant S_ .f32 0x3F800000#32)) (addf (broadcastInDim S32x440x440 ![] bcast_S_S32x440x440 (constant S_ .f32 0x3F800000#32)) (Host.exp (Host.negf (mulf (subf (mulf (broadcastInDim S32x440x440 ![0, 1, 2] bcast_S32x440x1_S32x440x440_0_1_2 (broadcastInDim S32x440x1 ![0, 1] bcast_S32x440_S32x440x1_0_1 g)) (broadcastInDim S32x440x440 ![0, 1, 2] bcast_S32x1x440_S32x440x440_0_1_2 (broadcastInDim S32x1x440 ![0, 2] bcast_S32x440_S32x1x440_0_2 g))) (broadcastInDim S32x440x440 ![] bcast_S_S32x440x440 thr)) (broadcastInDim S32x440x440 ![] bcast_S_S32x440x440 (constant S_ .f32 0x41200000#32)))))))) (broadcastInDim S32x440x440 ![0, 1, 2] bcast_S32x440x1_S32x440x440_0_1_2 (extractStridedSlice S32x440x1 ![0, 0, 0] w slices_S32x440x3_S32x440x1_0_0_0))) (mulf (mulf A (broadcastInDim S32x440x440 ![0, 1, 2] bcast_S1x440x440_S32x440x440_0_1_2 (broadcastInDim S1x440x440 ![1, 2] bcast_S440x440_S1x440x440_1_2 S))) (broadcastInDim S32x440x440 ![0, 1, 2] bcast_S32x440x1_S32x440x440_0_1_2 (extractStridedSlice S32x440x1 ![0, 0, 1] w slices_S32x440x3_S32x440x1_0_0_1)))) (mulf (mulf A (broadcastInDim S32x440x440 ![0, 1, 2] bcast_S1x440x440_S32x440x440_0_1_2 (broadcastInDim S1x440x440 ![1, 2] bcast_S440x440_S1x440x440_1_2 T))) (broadcastInDim S32x440x440 ![0, 1, 2] bcast_S32x440x1_S32x440x440_0_1_2 (extractStridedSlice S32x440x1 ![0, 0, 2] w slices_S32x440x3_S32x440x1_0_0_2)))

/-- The sum at an entry. -/
theorem sumArr_apply (A : FVec Ideal S32x440x440 .f32) (g : FVec Ideal S32x440 .f32) (thr : FVec Ideal S_ .f32) (w : FVec Ideal S32x440x3 .f32)
    (S T : FVec Ideal S440x440 .f32) (b : Fin 32) (i j : Fin 440) : sumArr A g thr w S T (ix3 b i j)
      = A (ix3 b i j) * Knn.edge (fun i => g (ix2 b i)) (thr ix0) i j * w (ix3 b i 0) + A (ix3 b i j) * S (ix2 i j) * w (ix3 b i 1)
        + A (ix3 b i j) * T (ix2 i j) * w (ix3 b i 2) := by
  have h : sumArr A g thr w S T (ix3 b i j)
      = A (ix3 b i j) * Ideal.div (Ideal.ofBits FTy.f32 0x3F800000#32) (Ideal.ofBits FTy.f32 0x3F800000#32
            + Ideal.exp (-((g (ix2 b i) * g (ix2 b j) - thr ix0) * Ideal.ofBits FTy.f32 0x41200000#32))) * w (ix3 b i 0)
        + A (ix3 b i j) * S (ix2 i j) * w (ix3 b i 1) + A (ix3 b i j) * T (ix2 i j) * w (ix3 b i 2) := by
    pointwise [sumArr]
  rw [h, one_bits]
  rfl

variable (V0 : Valuation τ sig (Elt Ideal))

/-- One entry of the reference's result, over the plain contents of its arguments. -/
def entry (X : FVec Ideal S32x440x128 .f32) (W : FVec Ideal S4x128x32 .f32) (G : FVec Ideal S128x3 .f32) (gb : FVec Ideal S3 .f32)
    (W1 : FVec Ideal S128x64 .f32) (b1 : FVec Ideal S64 .f32) (W2 : FVec Ideal S64x1 .f32) (b2 : FVec Ideal S1 .f32)
    (thr : FVec Ideal S_ .f32) (b : Fin 32) (i j : Fin 440) : EReal :=
  let a := Knn.meanOfFour fun h => Knn.headTermRef (Knn.dist (Knn.project (fun i d => X (ix3 b i d)) fun d k => W (ix3 h d k)))
    (Ideal.div (∑ b : Fin 32, ∑ i : Fin 440, ∑ j : Fin 440, Knn.dist (Knn.project (fun i d => X (ix3 b i d)) fun d k => W (ix3 h d k)) i j) Knn.entries) i j
  let w := Knn.weight (Knn.keptRef (Knn.softmax fun k => Knn.project (fun i d => X (ix3 b i d)) (fun d k => G (ix2 d k)) i k + gb (ix1 k)))
  a * Knn.edge (Knn.gate Knn.erfSeries (fun i d => X (ix3 b i d)) (fun d k => W1 (ix2 d k)) (fun k => b1 (ix1 k)) (fun k => W2 (ix2 k 0)) (b2 (ix1 0)))
      (thr ix0) i j * w 0
    + a * smask (ix2 i j) * w 1 + a * tmask (ix2 i j) * w 2

/-- The reference's result at an entry. -/
theorem value_apply (b : Fin 32) (i j : Fin 440) :
    (val7 V0 (Proc.devRef .tc main_v300) : FVec Ideal S32x440x440 .f32) (ix3 b i j)
      = entry (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) (V0 (Proc.devRef .tc main_arg7))
          (V0 (Proc.devRef .tc main_arg8)) b i j := by
  have h : (val7 V0 (Proc.devRef .tc main_v300) : FVec Ideal S32x440x440 .f32)
      = sumArr (res_main_v139 V0) (res_main_v234 V0) (V0 (Proc.devRef .tc main_arg8)) (res_main_v171 V0) smask tmask :=
    val7_main_v300 V0
  rw [h, sumArr_apply]
  simp only [adj_apply, gate_apply, weight_apply]
  rfl

end Cert.ReferenceIdeal.Read

end
-- ==== Proof.Masks.lean ====
/- The two programs' masks are the same: a product of a table with an identity is a selection. -/
module

public import proofs.«01_k».proof.Proof.KernelValue
public import proofs.«01_k».proof.Proof.RefValue

@[expose] public section

set_option maxRecDepth 65536

noncomputable section

namespace Knn

open Idealize.ShloMosaic

/-- The kernel's spatial mask at a pair of nodes: the channels' table times the patches' identity. -/
theorem kernel_smask_apply (i j : Fin 440) : Cert.KernelIdeal.Out.smask (ix2 i j)
    = Ideal.ofBits .f32 (Cert.KernelIdeal.lit0 (Cert.KernelIdeal.S22x22.rowMajor (ix2 (channel i) (channel j))))
      * FloatOps.uitofp (F := Ideal) .f32 (IntOp.cmpi .eq (IntOp.addi (BitVec.ofNat 32 (patch i).val) 0#32) (BitVec.ofNat 32 (patch j).val)) := by
  pointwise [Cert.KernelIdeal.Out.smask]
  rfl

/-- The kernel's temporal mask at a pair of nodes: the channels' identity times the patches' table. -/
theorem kernel_tmask_apply (i j : Fin 440) : Cert.KernelIdeal.Out.tmask (ix2 i j)
    = FloatOps.uitofp (F := Ideal) .f32 (IntOp.cmpi .eq (IntOp.addi (BitVec.ofNat 32 (channel i).val) 0#32) (BitVec.ofNat 32 (channel j).val))
      * Ideal.ofBits .f32 (Cert.KernelIdeal.lit1 (Cert.KernelIdeal.S20x20.rowMajor (ix2 (patch i) (patch j)))) := by
  pointwise [Cert.KernelIdeal.Out.tmask]
  rfl

/-- The channels' tables agree. -/
theorem lit0_eq : ∀ k : Fin 484, Cert.KernelIdeal.lit0 k = Cert.ReferenceIdeal.lit0 k := by
  decide +kernel

/-- The patches' table holds one where the patches differ by one and zero elsewhere. -/
theorem lit1_eq : ∀ p q : Fin 20, Cert.KernelIdeal.lit1 (Cert.KernelIdeal.S20x20.rowMajor (ix2 p q))
    = Scalar.select (IntOp.cmpi .eq (IntOp.absi (IntOp.subi (BitVec.ofNat 32 p.val) (BitVec.ofNat 32 q.val))) 1#32) 0x3F800000#32 0x00000000#32 := by
  decide +kernel

/-- Times a bit is the selection by it. -/
theorem mul_bit (u : EReal) (c : BitVec 1) : u * FloatOps.uitofp (F := Ideal) .f32 c = Scalar.select c u (0 : EReal) := by
  have h : ∀ c : BitVec 1, c = 0#1 ∨ c = 1#1 := by decide
  rcases h c with rfl | rfl
  · have : (FloatOps.uitofp (F := Ideal) .f32 (0#1 : BitVec 1) : EReal) = 0 := by
      show ((((0#1 : BitVec 1).toNat : ℝ)) : EReal) = 0
      simp
    rw [this, mul_zero]; rfl
  · have : (FloatOps.uitofp (F := Ideal) .f32 (1#1 : BitVec 1) : EReal) = 1 := by
      show ((((1#1 : BitVec 1).toNat : ℝ)) : EReal) = 1
      simp
    rw [this, mul_one]; rfl

/-- Adding zero to a word. -/
theorem addi_zero (v : BitVec 32) : IntOp.addi v 0#32 = v := BitVec.add_zero v

/-- The word of one and the word of zero, selected by a bit, read. -/
theorem read_bit (c : BitVec 1) : Ideal.ofBits .f32 (Scalar.select c 0x3F800000#32 0x00000000#32) = Scalar.select c (1 : EReal) (0 : EReal) := by
  have h : ∀ c : BitVec 1, c = 0#1 ∨ c = 1#1 := by decide
  rcases h c with rfl | rfl
  · show Ideal.ofBits .f32 0x00000000#32 = (0 : EReal)
    simp [Ideal.ofBits, Ideal.ieee]
  · show Ideal.ofBits .f32 0x3F800000#32 = (1 : EReal)
    exact Cert.ReferenceIdeal.Read.one_bits

/-- A selection of a selection is the selection by both bits. -/
theorem select_both (c d : BitVec 1) : Scalar.select c (Scalar.select d (1 : EReal) (0 : EReal)) (0 : EReal)
    = Scalar.select (IntOp.andi c d) (1 : EReal) (0 : EReal) := by
  have h : ∀ c : BitVec 1, c = 0#1 ∨ c = 1#1 := by decide
  rcases h c with rfl | rfl <;> rcases h d with rfl | rfl <;> rfl

/-- The spatial masks agree. -/
theorem smask_eq : Cert.KernelIdeal.Out.smask = Cert.ReferenceIdeal.Read.smask := by
  funext q
  obtain ⟨i, j, rfl⟩ : ∃ i j : Fin 440, q = ix2 i j := ⟨q 0, q 1, (ix2_eta q).symm⟩
  rw [kernel_smask_apply, Cert.ReferenceIdeal.Read.smask_apply, mul_bit, addi_zero]
  exact congrArg (fun u => Scalar.select _ (Ideal.ofBits .f32 u) (0 : EReal)) (lit0_eq _)

/-- The temporal masks agree. -/
theorem tmask_eq : Cert.KernelIdeal.Out.tmask = Cert.ReferenceIdeal.Read.tmask := by
  funext q
  obtain ⟨i, j, rfl⟩ : ∃ i j : Fin 440, q = ix2 i j := ⟨q 0, q 1, (ix2_eta q).symm⟩
  rw [kernel_tmask_apply, Cert.ReferenceIdeal.Read.tmask_apply, mul_comm, mul_bit, addi_zero, lit1_eq, read_bit, select_both]

end Knn

end
-- ==== Proof.Agree.lean ====
/- The two programs' entries agree where both rows' gaps are resolved. -/
module

public import proofs.«01_k».proof.Proof.Nearest
public import proofs.«01_k».proof.Proof.Router
public import proofs.«01_k».proof.Proof.Erf
public import proofs.«01_k».proof.Proof.Masks

@[expose] public section

noncomputable section

attribute [local irreducible] Idealize.ShloMosaic.sortedFrom Knn.descending

namespace Knn

open Idealize.ShloMosaic

/-- A nonnegative real distributes over the three routed parts. -/
theorem distribute {a : EReal} (h0 : 0 ≤ a) (ht : a ≠ ⊤) (e s t w0 w1 w2 : EReal) :
    a * (e * w0 + s * w1 + t * w2) = a * e * w0 + a * s * w1 + a * t * w2 := by
  rw [EReal.left_distrib_of_nonneg_of_ne_top h0 ht, EReal.left_distrib_of_nonneg_of_ne_top h0 ht, mul_assoc, mul_assoc, mul_assoc]

/-- The kernel's entry is the reference's where both rows' gaps are resolved in every head. -/
theorem entry_eq (X : FVec Ideal ⟨3, ![32, 440, 128]⟩ .f32) (W : FVec Ideal ⟨3, ![4, 128, 32]⟩ .f32) (G : FVec Ideal ⟨2, ![128, 3]⟩ .f32)
    (gb : FVec Ideal ⟨1, ![3]⟩ .f32) (W1 : FVec Ideal ⟨2, ![128, 64]⟩ .f32) (b1 : FVec Ideal ⟨1, ![64]⟩ .f32)
    (W2 : FVec Ideal ⟨2, ![64, 1]⟩ .f32) (b2 : FVec Ideal ⟨1, ![1]⟩ .f32) (thr : FVec Ideal ⟨0, ![]⟩ .f32) (b : Fin 32) (i j : Fin 440)
    (hg : ∀ h : Fin 4, Gap (Cert.On_resolved.Read.keys X W b h i) ∧ Gap (Cert.On_resolved.Read.keys X W b h j)) :
    Cert.KernelIdeal.Out.entry X W G gb W1 b1 W2 b2 thr b i j = Cert.ReferenceIdeal.Read.entry X W G gb W1 b1 W2 b2 thr b i j := by
  have hh : ∀ h : Fin 4, headTerm (Cert.KernelIdeal.Out.headRows X W b h) (Cert.KernelIdeal.Out.thresholdOf (Cert.KernelIdeal.Out.headRows X W b h))
        (Cert.KernelIdeal.Out.headTotal X W h) i j
      = headTermRef (dist (Cert.KernelIdeal.Out.headRows X W b h)) (Ideal.div (Cert.KernelIdeal.Out.headTotal X W h) entries) i j :=
    fun h => headTerm_eq (Cert.KernelIdeal.Out.headRows X W b h) (Cert.KernelIdeal.Out.headTotal X W h) i j (hg h).1 (hg h).2
  obtain ⟨h0, ht⟩ := meanOfFour_bounds (fun h => headTerm (Cert.KernelIdeal.Out.headRows X W b h)
    (Cert.KernelIdeal.Out.thresholdOf (Cert.KernelIdeal.Out.headRows X W b h)) (Cert.KernelIdeal.Out.headTotal X W h) i j)
    fun h => headTerm_bounds _ _ _ _ _
  unfold Cert.KernelIdeal.Out.entry
  dsimp only
  rw [distribute h0 ht, funext hh, kept_eq, erf_eq, smask_eq, tmask_eq]
  rfl

end Knn

end
-- ==== Proof.lean ====
/- The three programs run and keep their arguments, the idealization is the kernel's own text, and the kernel's result
   is the reference's at every entry whose two rows' neighbours are resolved. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.On_resolved
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The reference runs, keeps its arguments and ends with every semaphore counter at zero: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- At a selected index the reference's composed result is the kernel's result, from memories that agree on the
arguments. -/
theorem result_agrees
    (m : (ℓ : Loc Cert.KernelIdeal.nD Cert.KernelIdeal.τ Cert.KernelIdeal.sig) → Buf (Elt Ideal) ℓ) (g : Dev Cert.KernelIdeal.nD → PrngReg)
    (V0 : Valuation Cert.ReferenceIdeal.τ Cert.ReferenceIdeal.sig (Elt Ideal)) (c : Dev Cert.KernelIdeal.nD)
    (h0 : V0 (Proc.devRef .tc Cert.ReferenceIdeal.main_arg0) = m (c.tc.loc Cert.KernelIdeal.main_arg0))
    (h1 : V0 (Proc.devRef .tc Cert.ReferenceIdeal.main_arg1) = m (c.tc.loc Cert.KernelIdeal.main_arg1))
    (h2 : V0 (Proc.devRef .tc Cert.ReferenceIdeal.main_arg2) = m (c.tc.loc Cert.KernelIdeal.main_arg2))
    (h3 : V0 (Proc.devRef .tc Cert.ReferenceIdeal.main_arg3) = m (c.tc.loc Cert.KernelIdeal.main_arg3))
    (h4 : V0 (Proc.devRef .tc Cert.ReferenceIdeal.main_arg4) = m (c.tc.loc Cert.KernelIdeal.main_arg4))
    (h5 : V0 (Proc.devRef .tc Cert.ReferenceIdeal.main_arg5) = m (c.tc.loc Cert.KernelIdeal.main_arg5))
    (h6 : V0 (Proc.devRef .tc Cert.ReferenceIdeal.main_arg6) = m (c.tc.loc Cert.KernelIdeal.main_arg6))
    (h7 : V0 (Proc.devRef .tc Cert.ReferenceIdeal.main_arg7) = m (c.tc.loc Cert.KernelIdeal.main_arg7))
    (h8 : V0 (Proc.devRef .tc Cert.ReferenceIdeal.main_arg8) = m (c.tc.loc Cert.KernelIdeal.main_arg8))
    (i : (⟨3, ![32, 440, 440]⟩ : Shape).Idx)
    (hs : Cert.On_resolved.fn (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7))
      (m (c.tc.loc Cert.KernelIdeal.main_arg8)) i = 1#1) :
    (Cert.ReferenceIdeal.Value.val7 V0 (Proc.devRef .tc Cert.ReferenceIdeal.main_v300) : FVec Ideal ⟨3, ![32, 440, 440]⟩ .f32) i
      = Cert.KernelIdeal.Out.result m g c i := by
  obtain ⟨b, a, j, rfl⟩ : ∃ (b : Fin 32) (a j : Fin 440), i = ix3 b a j := ⟨i 0, i 1, i 2, (ix3_eta i).symm⟩
  refine (Cert.ReferenceIdeal.Read.value_apply V0 b a j).trans ?_
  refine Eq.trans ?_ (Cert.KernelIdeal.Out.result_apply m g c b a j).symm
  rw [h0, h1, h2, h3, h4, h5, h6, h7, h8]
  exact (Knn.entry_eq _ _ _ _ _ _ _ _ _ b a j fun h => Cert.On_resolved.Read.gaps _ _ _ _ _ _ _ _ _ b a j hs h).symm

/-- The reference runs to its composed result and keeps its arguments. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩ fun r =>
      ∀ c : Dev Cert.ReferenceIdeal.nD,
        r.2.mem (c.tc.loc Cert.ReferenceIdeal.main_v300)
            = Cert.ReferenceIdeal.Value.val7 (fun b => m (c, b)) (Proc.devRef .tc Cert.ReferenceIdeal.main_v300)
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4)
        ∧ r.2.mem (c.tc.loc Cert.ReferenceIdeal.main_arg5) = m (c.tc.loc Cert.ReferenceIdeal.main_arg5)
        ∧ r.2.mem (c.tc.loc Cert.ReferenceIdeal.main_arg6) = m (c.tc.loc Cert.ReferenceIdeal.main_arg6)
        ∧ r.2.mem (c.tc.loc Cert.ReferenceIdeal.main_arg7) = m (c.tc.loc Cert.ReferenceIdeal.main_arg7)
        ∧ r.2.mem (c.tc.loc Cert.ReferenceIdeal.main_arg8) = m (c.tc.loc Cert.ReferenceIdeal.main_arg8) :=
  (θ_run Cert.ReferenceIdeal.defs _ _).mono
    (fun _ h c => ⟨(h c).1.trans (Cert.ReferenceIdeal.Value.val7_main_v300 fun b => m (c, b)).symm, (h c).2⟩)
    (Cert.ReferenceIdeal.Value.run (F := Ideal) m g)

/-- The value claim: the two programs' results agree at every selected entry. -/
theorem value : Cert.algebraic_KernelIdeal_ReferenceIdeal_on_resolved (hKernelIdeal := Cert.KernelIdeal.Gen.facts)
    (hReferenceIdeal := Cert.ReferenceIdeal.Gen.facts) (hOn_resolved := Cert.On_resolved.Gen.facts) := by
  intro m g m' g' _ hm
  refine ⟨fun c => Cert.KernelIdeal.Out.result m g c, ?_, ?_⟩
  · exact (θ_run Cert.KernelIdeal.defs _ _).mono (fun r h c => ⟨fun i _ => congrFun (h c).1 i, (h c).2⟩) (Cert.KernelIdeal.Out.run m g)
  · refine (θ_run Cert.ReferenceIdeal.defs _ _).mono (fun r h c => ⟨fun i hs => ?_, (h c).2⟩) (run_reference m' g')
    obtain ⟨h0, h1, h2, h3, h4, h5, h6, h7, h8⟩ := hm c
    exact (congrFun (h c).1 i).trans (result_agrees m g (fun b => m' (c, b)) c h0 h1 h2 h3 h4 h5 h6 h7 h8 i hs)

/-- Everything the statement claims. -/
theorem claim : Cert.Claim := ⟨Cert.Kernel.Gen.facts, Cert.KernelIdeal.Gen.facts, Cert.ReferenceIdeal.Gen.facts, Cert.On_resolved.Gen.facts,
  fun m g _ => Cert.Kernel.Gen.frame m g, fun m g _ => Cert.KernelIdeal.Gen.frame m g, frame_reference, trivial, value⟩

end Cert.Proof

end
